-- ==== Defs.lean ====
def Pre_Kernel [hPre_tokens_in_vocab : Cert.Pre_tokens_in_vocab.Facts] (m : (ℓ : Loc Cert.Kernel.nD Cert.Kernel.τ Cert.Kernel.sig) → Buf (Elt Bits) ℓ) : Prop :=
  ∀ c : Dev Cert.Kernel.nD,
    (Cert.Pre_tokens_in_vocab.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_tokens_in_vocab : Cert.Pre_tokens_in_vocab.Facts] (m : (ℓ : Loc Cert.KernelIdeal.nD Cert.KernelIdeal.τ Cert.KernelIdeal.sig) → Buf (Elt Ideal) ℓ) : Prop :=
  ∀ c : Dev Cert.KernelIdeal.nD,
    (Cert.Pre_tokens_in_vocab.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tokens_in_vocab [hPre_tokens_in_vocab : Cert.Pre_tokens_in_vocab.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tokens_in_vocab.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] [hPre_tokens_in_vocab : Cert.Pre_tokens_in_vocab.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_tokens_in_vocab : Cert.Pre_tokens_in_vocab.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_tokens_in_vocab [hReferenceIdeal : Cert.ReferenceIdeal.Facts] [hPre_tokens_in_vocab : Cert.Pre_tokens_in_vocab.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tokens_in_vocab m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_tokens_in_vocab : Cert.Pre_tokens_in_vocab.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_tokens_in_vocab : Cert.Pre_tokens_in_vocab.Facts),
    quiescent_Kernel (hKernel := hKernel) (hPre_tokens_in_vocab := hPre_tokens_in_vocab)
    ∧ quiescent_KernelIdeal (hKernelIdeal := hKernelIdeal) (hPre_tokens_in_vocab := hPre_tokens_in_vocab)
    ∧ quiescent_ReferenceIdeal (hReferenceIdeal := hReferenceIdeal)
    ∧ quiescent_ReferenceIdeal_pre_tokens_in_vocab (hReferenceIdeal := hReferenceIdeal) (hPre_tokens_in_vocab := hPre_tokens_in_vocab)
    ∧ preserves_Kernel_KernelIdeal
    ∧ algebraic_KernelIdeal_ReferenceIdeal (hKernelIdeal := hKernelIdeal) (hReferenceIdeal := hReferenceIdeal) (hPre_tokens_in_vocab := hPre_tokens_in_vocab)
-- ==== Pre_tokens_in_vocab.lean ====
abbrev S4096x200 : Shape := ⟨2, ![4096, 200]⟩
abbrev S1000000x128 : Shape := ⟨2, ![1000000, 128]⟩
abbrev S128x100 : Shape := ⟨2, ![128, 100]⟩
abbrev S100 : Shape := ⟨1, ![100]⟩
abbrev S100x9 : Shape := ⟨2, ![100, 9]⟩
abbrev S9 : Shape := ⟨1, ![9]⟩
abbrev S_ : Shape := ⟨0, ![]⟩

class Facts : Prop where
  bcast_S_S4096x200 : S_.BroadcastsInDim S4096x200 (![] : Fin 0 → Fin S4096x200.rank)
  reducesTo_S4096x200_S_d0_1 : S4096x200.ReducesTo [0, 1] S_
  h_S_ : 0 < S_.numel

variable [Facts]

def fn {F : FTy → Type} [FloatOps F] (main_arg0 : IVec S4096x200 32) (main_arg1 : FVec F S1000000x128 .f32) (main_arg2 : FVec F S128x100 .f32) (main_arg3 : FVec F S100 .f32) (main_arg4 : FVec F S100x9 .f32) (main_arg5 : FVec F S9 .f32) : IVec S_ 1 :=
  let main_c : IVec S_ 32 := constantI S_ 32 0#32
  let main_v0 : IVec S4096x200 32 := broadcastInDim S4096x200 ![] bcast_S_S4096x200 main_c
  let main_v1 : IVec S4096x200 1 := cmpi .sge main_arg0 main_v0
  let main_c_0 : IVec S_ 32 := constantI S_ 32 1000000#32
  let main_v2 : IVec S4096x200 32 := broadcastInDim S4096x200 ![] bcast_S_S4096x200 main_c_0
  let main_v3 : IVec S4096x200 1 := cmpi .slt main_arg0 main_v2
  let main_v4 : IVec S4096x200 1 := andi main_v1 main_v3
  let main_c_1 : IVec S_ 1 := constantI S_ 1 1#1
  let main_v5 : IVec S_ 1 := (fun x v => Host.reduce IntOp.andi x v reducesTo_S4096x200_S_d0_1 h_S_) main_v4 main_c_1
  main_v5
-- ==== Kernel.lean ====
abbrev S4096x200 : Shape := ⟨2, ![4096, 200]⟩
abbrev S1000000x128 : Shape := ⟨2, ![1000000, 128]⟩
abbrev S128x100 : Shape := ⟨2, ![128, 100]⟩
abbrev S100 : Shape := ⟨1, ![100]⟩
abbrev S100x9 : Shape := ⟨2, ![100, 9]⟩
abbrev S9 : Shape := ⟨1, ![9]⟩
abbrev S_ : Shape := ⟨0, ![]⟩
abbrev S100x16 : Shape := ⟨2, ![100, 16]⟩
abbrev S16 : Shape := ⟨1, ![16]⟩
abbrev S1x16 : Shape := ⟨2, ![1, 16]⟩
abbrev S1x100 : Shape := ⟨2, ![1, 100]⟩
abbrev S125000x128 : Shape := ⟨2, ![125000, 128]⟩
abbrev S1000x128 : Shape := ⟨2, ![1000, 128]⟩
abbrev S1000x100 : Shape := ⟨2, ![1000, 100]⟩
abbrev S1000x16 : Shape := ⟨2, ![1000, 16]⟩
abbrev S1000000x16 : Shape := ⟨2, ![1000000, 16]⟩
abbrev S819200 : Shape := ⟨1, ![819200]⟩
abbrev S100x8192 : Shape := ⟨2, ![100, 8192]⟩
abbrev S819200x16 : Shape := ⟨2, ![819200, 16]⟩
abbrev S25600 : Shape := ⟨1, ![25600]⟩
abbrev S1280x16 : Shape := ⟨2, ![1280, 16]⟩
abbrev S1280 : Shape := ⟨1, ![1280]⟩
abbrev S819200x9 : Shape := ⟨2, ![819200, 9]⟩
abbrev S4096x200x9 : Shape := ⟨3, ![4096, 200, 9]⟩

abbrev nBuf : Table → Nat
  | .hbm => 23
  | .local .tc .vmem => 24
  | .local .scVector .vmem => 6
  | _ => 0

abbrev bufTy : (tb : Table) → Fin (nBuf tb) → BufTy
  | .hbm, ⟨0, _⟩ => ⟨S4096x200, .i32⟩
  | .hbm, ⟨1, _⟩ => ⟨S1000000x128, .f32⟩
  | .hbm, ⟨2, _⟩ => ⟨S128x100, .f32⟩
  | .hbm, ⟨3, _⟩ => ⟨S100, .f32⟩
  | .hbm, ⟨4, _⟩ => ⟨S100x9, .f32⟩
  | .hbm, ⟨5, _⟩ => ⟨S9, .f32⟩
  | .hbm, ⟨6, _⟩ => ⟨S_, .i32⟩
  | .hbm, ⟨7, _⟩ => ⟨S_, .f32⟩
  | .hbm, ⟨8, _⟩ => ⟨S100x16, .f32⟩
  | .hbm, ⟨9, _⟩ => ⟨S_, .i32⟩
  | .hbm, ⟨10, _⟩ => ⟨S_, .f32⟩
  | .hbm, ⟨11, _⟩ => ⟨S16, .f32⟩
  | .hbm, ⟨12, _⟩ => ⟨S1x16, .f32⟩
  | .hbm, ⟨13, _⟩ => ⟨S1x100, .f32⟩
  | .hbm, ⟨14, _⟩ => ⟨S125000x128, .f32⟩
  | .hbm, ⟨15, _⟩ => ⟨S1000000x16, .f32⟩
  | .hbm, ⟨16, _⟩ => ⟨S819200, .i32⟩
  | .hbm, ⟨17, _⟩ => ⟨S100x8192, .i32⟩
  | .hbm, ⟨18, _⟩ => ⟨S100x8192, .i32⟩
  | .hbm, ⟨19, _⟩ => ⟨S819200, .i32⟩
  | .hbm, ⟨20, _⟩ => ⟨S819200x16, .f32⟩
  | .hbm, ⟨21, _⟩ => ⟨S819200x9, .f32⟩
  | .hbm, ⟨22, _⟩ => ⟨S4096x200x9, .f32⟩
  | .local .tc .vmem, ⟨0, _⟩ => ⟨S1000x128, .f32⟩
  | .local .tc .vmem, ⟨1, _⟩ => ⟨S1000x128, .f32⟩
  | .local .tc .vmem, ⟨2, _⟩ => ⟨S1000x128, .f32⟩
  | .local .tc .vmem, ⟨3, _⟩ => ⟨S1000x128, .f32⟩
  | .local .tc .vmem, ⟨4, _⟩ => ⟨S1000x128, .f32⟩
  | .local .tc .vmem, ⟨5, _⟩ => ⟨S1000x128, .f32⟩
  | .local .tc .vmem, ⟨6, _⟩ => ⟨S1000x128, .f32⟩
  | .local .tc .vmem, ⟨7, _⟩ => ⟨S1000x128, .f32⟩
  | .local .tc .vmem, ⟨8, _⟩ => ⟨S1000x128, .f32⟩
  | .local .tc .vmem, ⟨9, _⟩ => ⟨S1000x128, .f32⟩
  | .local .tc .vmem, ⟨10, _⟩ => ⟨S1000x128, .f32⟩
  | .local .tc .vmem, ⟨11, _⟩ => ⟨S1000x128, .f32⟩
  | .local .tc .vmem, ⟨12, _⟩ => ⟨S1000x128, .f32⟩
  | .local .tc .vmem, ⟨13, _⟩ => ⟨S1000x128, .f32⟩
  | .local .tc .vmem, ⟨14, _⟩ => ⟨S1000x128, .f32⟩
  | .local .tc .vmem, ⟨15, _⟩ => ⟨S1000x128, .f32⟩
  | .local .tc .vmem, ⟨16, _⟩ => ⟨S128x100, .f32⟩
  | .local .tc .vmem, ⟨17, _⟩ => ⟨S1x100, .f32⟩
  | .local .tc .vmem, ⟨18, _⟩ => ⟨S100x16, .f32⟩
  | .local .tc .vmem, ⟨19, _⟩ => ⟨S1x16, .f32⟩
  | .local .tc .vmem, ⟨20, _⟩ => ⟨S1000x128, .f32⟩
  | .local .tc .vmem, ⟨21, _⟩ => ⟨S1000x128, .f32⟩
  | .local .tc .vmem, ⟨22, _⟩ => ⟨S100x8192, .i32⟩
  | .local .tc .vmem, ⟨23, _⟩ => ⟨S100x8192, .i32⟩
  | .local .scVector .vmem, ⟨0, _⟩ => ⟨S25600, .i32⟩
  | .local .scVector .vmem, ⟨1, _⟩ => ⟨S1280x16, .f32⟩
  | .local .scVector .vmem, ⟨2, _⟩ => ⟨S1280x16, .f32⟩
  | .local .scVector .vmem, ⟨3, _⟩ => ⟨S1280x16, .f32⟩
  | .local .scVector .vmem, ⟨4, _⟩ => ⟨S1280x16, .f32⟩
  | .local .scVector .vmem, ⟨5, _⟩ => ⟨S1280x16, .f32⟩
  | _, _ => ⟨S4096x200, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => false
  | ⟨25, _⟩ => false
  | ⟨26, _⟩ => false
  | ⟨27, _⟩ => false
  | ⟨28, _⟩ => false
  | ⟨29, _⟩ => false
  | ⟨30, _⟩ => false
  | ⟨31, _⟩ => false
  | ⟨32, _⟩ => false
  | ⟨33, _⟩ => false
  | ⟨34, _⟩ => false
  | _ => false

abbrev sig : RefSig :=
  ofTables nBuf rfl bufTy 4 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_call0_v0 : Ref sig .tc := ⟨.hbm, 7, rfl⟩
abbrev main_v0 : Ref sig .tc := ⟨.hbm, 8, rfl⟩
abbrev main_c_0 : Ref sig .tc := ⟨.hbm, 9, rfl⟩
abbrev main_call1_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v5_scv : Ref sig .scVector := ⟨.hbm, 15, rfl⟩
abbrev main_v9_scv : Ref sig .scVector := ⟨.hbm, 19, rfl⟩
abbrev main_v10_scv : Ref sig .scVector := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg12_1 : Ref sig .tc := ⟨.vmem, 21, rfl⟩
abbrev cc1_stg0_0 : Ref sig .tc := ⟨.vmem, 22, rfl⟩
abbrev cc1_stg1_0 : Ref sig .tc := ⟨.vmem, 23, rfl⟩
abbrev cc2_scratch0 : Ref sig .scVector := ⟨.vmem, 0, rfl⟩
abbrev cc2_scratch1 : Ref sig .scVector := ⟨.vmem, 1, rfl⟩
abbrev cc2_scratch2 : Ref sig .scVector := ⟨.vmem, 2, rfl⟩
abbrev cc2_scratch3 : Ref sig .scVector := ⟨.vmem, 3, rfl⟩
abbrev cc2_scratch4 : Ref sig .scVector := ⟨.vmem, 4, rfl⟩
abbrev cc2_scratch5 : Ref sig .scVector := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem12_1 : DmaSem sig := 21
abbrev cc1_sem0_0 : DmaSem sig := 22
abbrev cc1_sem1_0 : DmaSem sig := 23
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c125_i32 : BitVec 32 := 125#32
  let v0 : BitVec 32 := Scalar.addi c125_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c250_i32 : BitVec 32 := 250#32
  let v0 : BitVec 32 := Scalar.addi c250_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c375_i32 : BitVec 32 := 375#32
  let v0 : BitVec 32 := Scalar.addi c375_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c500_i32 : BitVec 32 := 500#32
  let v0 : BitVec 32 := Scalar.addi c500_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c625_i32 : BitVec 32 := 625#32
  let v0 : BitVec 32 := Scalar.addi c625_i32 arg0
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c750_i32 : BitVec 32 := 750#32
  let v0 : BitVec 32 := Scalar.addi c750_i32 arg0
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c875_i32 : BitVec 32 := 875#32
  let v0 : BitVec 32 := Scalar.addi c875_i32 arg0
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S128x100 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x100 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S100x16 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x16 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S1000x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S100x8192 .i32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S100x8192 .i32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev grid2 : Pipeline.Grid := ⟨2, ![2, 16], ![false, false]⟩

def k2_off1 (i : grid2.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v2 : BitVec 32 := Scalar.muli v1 c25600_i32
  ![v2.toNat]
def k2_off2 (i : grid2.Coords) (c0_i32_13 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v2 : BitVec 32 := Scalar.muli v1 c25600_i32
  let v15 : BitVec 32 := Scalar.addi v2 c0_i32_13
  let c0_i32_14 : BitVec 32 := 0#32
  ![v15.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4096x200 : Shape := ⟨2, ![4096, 200]⟩
abbrev S1000000x128 : Shape := ⟨2, ![1000000, 128]⟩
abbrev S128x100 : Shape := ⟨2, ![128, 100]⟩
abbrev S100 : Shape := ⟨1, ![100]⟩
abbrev S100x9 : Shape := ⟨2, ![100, 9]⟩
abbrev S9 : Shape := ⟨1, ![9]⟩
abbrev S_ : Shape := ⟨0, ![]⟩
abbrev S4096x200x1 : Shape := ⟨3, ![4096, 200, 1]⟩
abbrev S1 : Shape := ⟨1, ![1]⟩
abbrev S1x1x1 : Shape := ⟨3, ![1, 1, 1]⟩
abbrev S4096x200x128 : Shape := ⟨3, ![4096, 200, 128]⟩
abbrev S4096x200x100 : Shape := ⟨3, ![4096, 200, 100]⟩
abbrev S1x1x100 : Shape := ⟨3, ![1, 1, 100]⟩
abbrev S4096x200x9 : Shape := ⟨3, ![4096, 200, 9]⟩
abbrev S1x1x9 : Shape := ⟨3, ![1, 1, 9]⟩

abbrev nBuf : Space → Nat
  | .hbm => 40
  | .vmem => 0
  | .smem => 0
  | _ => 0

abbrev bufTy : (tb : Table) → Fin (tcTables nBuf tb) → BufTy
  | .hbm, ⟨0, _⟩ => ⟨S4096x200, .i32⟩
  | .hbm, ⟨1, _⟩ => ⟨S1000000x128, .f32⟩
  | .hbm, ⟨2, _⟩ => ⟨S128x100, .f32⟩
  | .hbm, ⟨3, _⟩ => ⟨S100, .f32⟩
  | .hbm, ⟨4, _⟩ => ⟨S100x9, .f32⟩
  | .hbm, ⟨5, _⟩ => ⟨S9, .f32⟩
  | .hbm, ⟨6, _⟩ => ⟨S_, .i32⟩
  | .hbm, ⟨7, _⟩ => ⟨S4096x200, .i32⟩
  | .hbm, ⟨8, _⟩ => ⟨S4096x200, .i1⟩
  | .hbm, ⟨9, _⟩ => ⟨S_, .i32⟩
  | .hbm, ⟨10, _⟩ => ⟨S4096x200, .i32⟩
  | .hbm, ⟨11, _⟩ => ⟨S4096x200, .i32⟩
  | .hbm, ⟨12, _⟩ => ⟨S4096x200, .i32⟩
  | .hbm, ⟨13, _⟩ => ⟨S4096x200x1, .i32⟩
  | .hbm, ⟨14, _⟩ => ⟨S1, .i32⟩
  | .hbm, ⟨15, _⟩ => ⟨S_, .i32⟩
  | .hbm, ⟨16, _⟩ => ⟨S4096x200x1, .i32⟩
  | .hbm, ⟨17, _⟩ => ⟨S4096x200x1, .i1⟩
  | .hbm, ⟨18, _⟩ => ⟨S1x1x1, .i32⟩
  | .hbm, ⟨19, _⟩ => ⟨S4096x200x1, .i32⟩
  | .hbm, ⟨20, _⟩ => ⟨S4096x200x1, .i1⟩
  | .hbm, ⟨21, _⟩ => ⟨S4096x200x1, .i1⟩
  | .hbm, ⟨22, _⟩ => ⟨S_, .i1⟩
  | .hbm, ⟨23, _⟩ => ⟨S4096x200, .i1⟩
  | .hbm, ⟨24, _⟩ => ⟨S4096x200x128, .f32⟩
  | .hbm, ⟨25, _⟩ => ⟨S4096x200x128, .i1⟩
  | .hbm, ⟨26, _⟩ => ⟨S_, .f32⟩
  | .hbm, ⟨27, _⟩ => ⟨S4096x200x128, .f32⟩
  | .hbm, ⟨28, _⟩ => ⟨S4096x200x128, .f32⟩
  | .hbm, ⟨29, _⟩ => ⟨S4096x200x100, .f32⟩
  | .hbm, ⟨30, _⟩ => ⟨S1x1x100, .f32⟩
  | .hbm, ⟨31, _⟩ => ⟨S4096x200x100, .f32⟩
  | .hbm, ⟨32, _⟩ => ⟨S4096x200x100, .f32⟩
  | .hbm, ⟨33, _⟩ => ⟨S_, .f32⟩
  | .hbm, ⟨34, _⟩ => ⟨S4096x200x100, .f32⟩
  | .hbm, ⟨35, _⟩ => ⟨S4096x200x100, .f32⟩
  | .hbm, ⟨36, _⟩ => ⟨S4096x200x9, .f32⟩
  | .hbm, ⟨37, _⟩ => ⟨S1x1x9, .f32⟩
  | .hbm, ⟨38, _⟩ => ⟨S4096x200x9, .f32⟩
  | .hbm, ⟨39, _⟩ => ⟨S4096x200x9, .f32⟩
  | _, _ => ⟨S4096x200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_cst : Ref sig .tc := ⟨.hbm, 26, rfl⟩
abbrev main_call0_v15 : Ref sig .tc := ⟨.hbm, 27, rfl⟩
abbrev main_v0 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_call1_cst : Ref sig .tc := ⟨.hbm, 33, rfl⟩
abbrev main_call1_v0 : Ref sig .tc := ⟨.hbm, 34, rfl⟩
abbrev main_v5 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩

abbrev nD : Nat := 1
abbrev τ : Topo := Topo.v7x

variable {F : FTy → Type} [FloatOps F]
-- ==== Proof.Setup.lean ====
/-
  The program as the launch theorem sees it: the SparseCore configuration, the pipelines' body table, the resource
  algebra (the handshakes' rounds, the two TensorCore pipelines' rounds, the transfers' counters), the buffers by name,
  and how the gather call's operands are dealt among the thirty-two tiles.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Pipeline.Regions
public import Idealize.ShloMosaic.Lib.Tactic
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

set_option maxRecDepth 16384

noncomputable section

namespace Cert.Proof.K

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The configuration -/

/-- The labels of the two pipelines' program. -/
abbrev ΛP : Labels := Pipeline.Sig Λ₀ (Fin 2) fun p => (pcfgs (F := F) p).Adm
/-- The SparseCore call. -/
abbrev K : SparseCore.Cfg τ sig (ΛP (F := F)) 1 := sc (F := F)
/-- The call runs on sixteen tiles of each SparseCore, -/
theorem nSub_zero : (K (F := F)).nSub 0 = 16 := rfl
/-- and on both SparseCores. -/
theorem nCore_zero : (K (F := F)).nCore 0 = 2 := rfl
/-- The pipelines' label table. -/
abbrev D [FloatOps F] : Defs nD τ sig (Elt F) (ΛP (F := F)) := Pipeline.defs pcfgs defs₀
/-- No loop needs a variant, -/
abbrev 𝒱₀ : Variants := Variants.none
/-- none with the pipelines' labels either, -/
abbrev 𝒱 : Variants := 𝒱₀.lift
/-- and this is the one in force. -/
abbrev v₀ : 𝒱.V := Sum.inl none

/-- The launch semaphores and the scoped storage are where the launch protocol wants them. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

/-- The ghost state of the call's handshakes, -/
abbrev UH : Type := URounds (GSem nD τ sig) ℕ
/-- of the pipelines' rounds, -/
abbrev UP : Type := URounds (GSem nD τ sig) Unit
/-- and all of it. -/
abbrev UU : Type := UH × (UP × Counters)

local notation "𝕄" => MT nD τ sig (HIx 1) (Elt F) ℕ UU ℕ

/-- The handshakes' rounds, in the machine's algebra; -/
abbrev EH : Emb UH (MT nD τ sig (HIx 1) (Elt F) ℕ UU ℕ) := embL
/-- and the pipelines'. -/
def EP : Emb UP (MT nD τ sig (HIx 1) (Elt F) ℕ UU ℕ) := (Emb.inl : Emb UP (UP × Counters)).trans embR

instance EP_landsIn : (EP (F := F)).LandsIn (upEmb : UEmb _ (MT nD τ sig (HIx 1) (Elt F) ℕ UU ℕ)) := by
  unfold EP; infer_instance

/-! ## The buffers of the gather call -/

/-- The table the tiles gather from, in device memory; -/
abbrev tLoc (d : Dev nD) : Loc nD τ sig := (SparseCore.T d).loc main_v5
/-- the row numbers; -/
abbrev lLoc (d : Dev nD) : Loc nD τ sig := (SparseCore.T d).loc main_v9
/-- and the gathered rows. -/
abbrev oLoc (d : Dev nD) : Loc nD τ sig := (SparseCore.T d).loc main_v10

/-! ## How they are dealt: thirty-two tiles, twenty chunks each -/

/-- The list parts into 32 equal runs, -/
theorem ldiv : 32 ∣ S819200.size 0 := ⟨25600, rfl⟩
/-- and the result into 640. -/
theorem odiv : 640 ∣ S819200x16.size 0 := ⟨1280, rfl⟩
/-- Tile `w`'s row numbers, and chunk `i` (of 1280 rows) of the result. -/
abbrev lSet (w : Fin 32) : Finset S819200.Idx := (Rect.part (s := S819200) (a₀ := 0) ldiv w).set
/-- A chunk of the result. -/
abbrev oSet (i : Fin 640) : Finset S819200x16.Idx := (Rect.part (s := S819200x16) (a₀ := 0) odiv i).set

/-- Chunk `j` of tile `w` is chunk `20 w + j` of the result. -/
def chunk (w : Fin 32) (j : Fin 20) : Fin 640 := ⟨20 * w.val + j.val, by omega⟩

/-- Tile `w`'s share of the table, for the `k`-th of the gathers it has in flight at once. -/
abbrev tQ (w : Fin 32) (k : Fin 5) : PosShare TreeShare :=
  pieceOf (pieceOf fullShare 32 (by decide) w) 5 (by decide) k

/-- The number of the tile at coordinates `(c, s)`: tile `s` of SparseCore `c` works on part `2 s + c`. -/
def wid (c : Fin 2) (s : Fin 16) : Fin 32 := ⟨2 * s.val + c.val, by omega⟩

/-- The row of the table a word names (the words that reach it are in range: `PreOK`). -/
def rowAt (v : BitVec 32) : Fin 1000000 := ⟨v.toNat % 1000000, Nat.mod_lt _ (by decide)⟩

/-- What the gather leaves: row `r` of the result is the row of the table that word `r` of the list names. -/
def gathered (tab : S1000000x16.Idx → Elt F .f32) (lst : S819200.Idx → BitVec 32) : S819200x16.Idx → Elt F .f32 :=
  fun x => tab (fun | 0 => rowAt (lst (fun | 0 => x 0)) | 1 => x 1)

variable (tab : (d : Dev nD) → Buf (Elt F) (tLoc d)) (lst : (d : Dev nD) → Buf (Elt F) (lLoc d)) (out : (d : Dev nD) → Buf (Elt F) (oLoc d))

/-- The result's contents after the call. -/
abbrev OUT (d : Dev nD) : Buf (Elt F) (oLoc d) := gathered (F := F) (tab d) (lst d)

/-- What tile `w` is handed and hands back, the result's chunks at contents `f`: its row numbers, its shares of the table,
    its chunks of the result. -/
abbrev tileRes (d : Dev nD) (w : Fin 32) (f : Buf (Elt F) (oLoc d)) : sProp 𝕄 :=
  iprop((lLoc d ↦[lSet w]{fullShare} lst d) ∗ (bigSep Finset.univ fun k : Fin 5 => tLoc d ↦{tQ w k} tab d)
    ∗ bigSep Finset.univ fun j : Fin 20 => oLoc d ↦[oSet (chunk w j)]{fullShare} f)

/-- What a SparseCore is handed and hands back: its sixteen tiles' resources. -/
abbrev coreRes (d : Dev nD) (c : Fin 2) (f : Buf (Elt F) (oLoc d)) : sProp 𝕄 :=
  bigSep Finset.univ fun s : Fin 16 => tileRes tab lst d (wid c s) f

/-- What the handshakes carry: each SparseCore its tiles' resources, each tile its own; back, the result's chunks at the
    gathered rows. -/
def P : (K (F := F)).Pay (nD := nD) (Val := Elt F) (Name := ℕ) (U := UU) where
  st := fun q d c => match q with | 0 => coreRes tab lst d (Fin.cast nCore_zero c) (out d)
  dn := fun q d c => match q with | 0 => coreRes tab lst d (Fin.cast nCore_zero c) (OUT tab lst d)
  go := fun q d c i => match q with | 0 => tileRes tab lst d (wid (Fin.cast nCore_zero c) (Fin.cast nSub_zero i)) (out d)
  td := fun q d c i => match q with | 0 => tileRes tab lst d (wid (Fin.cast nCore_zero c) (Fin.cast nSub_zero i)) (OUT tab lst d)
  x := fun _ _ => iprop(emp)

instance P_storable : (P (F := F) tab lst out).IsStorable where
  st q d c := match q with
    | 0 => (inferInstance : BI.Storable (upEmb : UEmb _ 𝕄) (coreRes tab lst d (Fin.cast nCore_zero c) (out d)))
  dn q d c := match q with
    | 0 => (inferInstance : BI.Storable (upEmb : UEmb _ 𝕄) (coreRes tab lst d (Fin.cast nCore_zero c) (OUT tab lst d)))
  go q d c i := match q with
    | 0 => (inferInstance : BI.Storable (upEmb : UEmb _ 𝕄) (tileRes tab lst d (wid (Fin.cast nCore_zero c) (Fin.cast nSub_zero i)) (out d)))
  td q d c i := match q with
    | 0 => (inferInstance : BI.Storable (upEmb : UEmb _ 𝕄) (tileRes tab lst d (wid (Fin.cast nCore_zero c) (Fin.cast nSub_zero i)) (OUT tab lst d)))

/-- What the gather call asks of the list: every word names a row of the table. -/
def PreOK : Prop := ∀ (d : Dev nD) (x : S819200.Idx), ((lst d x : BitVec 32)).toNat < 1000000

omit tab lst out in
/-- What is held for every tile of a SparseCore, by tile number. -/
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- A SparseCore's resources are its tiles', going out and coming back. -/
theorem vecSplit : (K (F := F)).VecSplit' (P tab lst out) 0 := by
  intro d c
  show coreRes tab lst d (Fin.cast nCore_zero c) (out d) ⊢ |={Set.univ}=> iprop(
      (bigSep Finset.univ fun i : Fin ((K (F := F)).nSub 0) => tileRes tab lst d (wid (Fin.cast nCore_zero c) (Fin.cast nSub_zero i)) (out d))
      ∗ ((bigSep Finset.univ fun i : Fin ((K (F := F)).nSub 0) => tileRes tab lst d (wid (Fin.cast nCore_zero c) (Fin.cast nSub_zero i)) (OUT tab lst d))
          -∗ coreRes tab lst d (Fin.cast nCore_zero c) (OUT tab lst d)))
  rw [bigSep_tasks (F := F) (fun i => tileRes tab lst d (wid (Fin.cast nCore_zero c) i) (out d)),
    bigSep_tasks (F := F) (fun i => tileRes tab lst d (wid (Fin.cast nCore_zero c) i) (OUT tab lst d))]
  iintro H; imodintro
  isplitl [H]; · iexact H
  iintro H; iexact H

/-! ## The whole operands are the tiles' resources -/

omit tab lst out in
/-- The runs of the list do not meet, -/
theorem lSet_disjoint : ∀ i ∈ (Finset.univ : Finset (Fin 32)), ∀ j ∈ (Finset.univ : Finset (Fin 32)), i ≠ j → Disjoint (lSet i) (lSet j) :=
  fun _ _ _ _ h => Rect.part_disjoint ldiv h
omit tab lst out in
/-- nor do the chunks of the result. -/
theorem oSet_disjoint : ∀ i ∈ (Finset.univ : Finset (Fin 640)), ∀ j ∈ (Finset.univ : Finset (Fin 640)), i ≠ j → Disjoint (oSet i) (oSet j) :=
  fun _ _ _ _ h => Rect.part_disjoint odiv h

omit tab lst out in
/-- The list whole is the tiles' parts. -/
theorem lPts_parts (d : Dev nD) (f : Buf (Elt F) (lLoc d)) :
    (lLoc d ↦{fullShare} f : sProp 𝕄) = bigSep Finset.univ fun i : Fin 32 => lLoc d ↦[lSet i]{fullShare} f := by
  rw [← pointsTo_biUnion Finset.univ (ℓ := lLoc d) lSet lSet_disjoint]
  exact congrArg (fun I => (lLoc d ↦[I]{fullShare} f : sProp 𝕄)) (Rect.biUnion_part ldiv).symm

/-- The chunks, by tile. -/
def chunkEquiv : Fin 32 × Fin 20 ≃ Fin 640 := finProdFinEquiv
omit tab lst out in
/-- The correspondence of tiles' chunks with all chunks, at a chunk. -/
theorem chunkEquiv_apply (w : Fin 32) (j : Fin 20) : chunkEquiv (w, j) = chunk w j := Fin.ext (by
  show j.val + 20 * w.val = 20 * w.val + j.val; omega)

omit tab lst out in
/-- The result whole is the tiles' chunks. -/
theorem oPts_chunks (d : Dev nD) (f : Buf (Elt F) (oLoc d)) :
    (oLoc d ↦{fullShare} f : sProp 𝕄)
      = bigSep Finset.univ fun w : Fin 32 => bigSep Finset.univ fun j : Fin 20 => oLoc d ↦[oSet (chunk w j)]{fullShare} f := by
  have h : (oLoc d ↦{fullShare} f : sProp 𝕄) = bigSep Finset.univ fun i : Fin 640 => oLoc d ↦[oSet i]{fullShare} f := by
    rw [← pointsTo_biUnion Finset.univ (ℓ := oLoc d) oSet oSet_disjoint]
    exact congrArg (fun I => (oLoc d ↦[I]{fullShare} f : sProp 𝕄)) (Rect.biUnion_part odiv).symm
  rw [h, bigSep_univ_equiv chunkEquiv, bigSep_univ_prod]
  simp only [chunkEquiv_apply]

omit tab lst out in
/-- The table whole is the tiles' shares of it. -/
theorem tPts_shares (d : Dev nD) (f : Buf (Elt F) (tLoc d)) :
    (tLoc d ↦{fullShare} f : sProp 𝕄) = bigSep Finset.univ fun w : Fin 32 => bigSep Finset.univ fun k : Fin 5 => tLoc d ↦{tQ w k} f := by
  rw [pointsTo_piecesOf Finset.univ f (o := 32) (by decide) fullShare]
  exact bigSep_congr fun w _ => pointsTo_piecesOf Finset.univ f (o := 5) (by decide) _

/-- The tiles' numbers, by SparseCore and tile. -/
def widEquiv : Fin 16 × Fin 2 ≃ Fin 32 := finProdFinEquiv
omit tab lst out in
/-- The correspondence of tiles with worker numbers, at a tile. -/
theorem widEquiv_apply (s : Fin 16) (c : Fin 2) : widEquiv (s, c) = wid c s := Fin.ext (by
  show c.val + 2 * s.val = 2 * s.val + c.val; omega)

/-- The three operands whole are the two SparseCores' resources. -/
theorem operands_eq (d : Dev nD) (f : Buf (Elt F) (oLoc d)) :
    (iprop((lLoc d ↦{fullShare} lst d) ∗ (tLoc d ↦{fullShare} tab d) ∗ oLoc d ↦{fullShare} f) : sProp 𝕄)
      = bigSep Finset.univ fun c : Fin 2 => coreRes tab lst d c f := by
  rw [lPts_parts, tPts_shares, oPts_chunks, ← bigSep_sep', ← bigSep_sep', bigSep_univ_equiv widEquiv, bigSep_univ_prod, BI.bigSep_univ_comm]
  simp only [widEquiv_apply]

end Cert.Proof.K

end
-- ==== Proof.Region.lean ====
/-
  The two TensorCore pipelines as regions of @main, stated once for both: entered from every device-memory buffer of the
  core at a valuation and left at the valuation the pipeline's write-backs make of it, the debts of the SparseCore launch
  still owed.
-/
module

public import proofs.«01_k».proof.Proof.Setup
public import Idealize.ShloMosaic.Lib.Pipeline.FrameSuffix
public import Idealize.ShloMosaic.Lib.Pipeline.RegionArrays

@[expose] public section

set_option maxRecDepth 16384

noncomputable section

namespace Cert.Proof.K

open Cert.KernelIdeal Cert.KernelIdeal.Gen

open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig (HIx 1) (Elt F) ℕ UU ℕ

/-- Neither pipeline reads a table ahead of its grid. -/
abbrev adm : (p : Fin 2) → (pcfgs (F := F) p).Adm := fun p => (cfgs p).toPCfg_adm

/-- What the core owes while its pipelines run, the launch of the SparseCore call; every wait it recorded is of its own. -/
abbrev owesT (c : Dev nD) : sProp 𝕄 :=
  iprop(∃ W, ⌜(K (F := F)).WBelow (SparseCore.T c) W 0⌝ ∗ owes (SparseCore.T c) ((K (F := F)).Otc c 0) W)

/-- A tally at a stage of the call is none at the kernels' own index. -/
theorem Otc_none (c : Dev nD) (g : GSem nD τ sig) : (K (F := F)).Otc c 0 g none = 0 := by
  by_contra h
  have := (K (F := F)).lev_of_Otc_pos (Nat.pos_of_ne_zero h)
  exact absurd this (Nat.not_succ_le_zero _)

/-- A pipeline's proof data from a valuation: its arrays there, the scoped buffers it does not stage beside, its input
    arrays at the shares their windows divide, the launch's debts owed throughout. -/
def datOf (p : Fin 2) (c : Dev nD) (V : Valuation τ sig (Elt F))
    (aft : (w : Fin (cfgs p).W) → Fin (cfgs p).N → ((cfgs p).win w).block.Idx → Elt F ((cfgs p).win w).elt) :
    Dat τ (Elt F) (HIx 1) ℕ UU ℕ (cfgs p) c where
  A w := V (Proc.devRef .tc (Pipeline.arrRef (cfgs p).spec w))
  after := aft
  Φ _ := Pipeline.scopedRest (cfgs p).spec c
  q w := Pipeline.shareOf (cfgs p).spec w
  owed _ := (K (F := F)).Otc c 0
  recorded _ := {x | (K (F := F)).lev (SparseCore.T c, x.1) x.2 ≤ 0}

/-- Both pipelines' proof data, from a valuation and the staging contents each leaves. -/
def pdats (V : Fin 2 → Dev nD → Valuation τ sig (Elt F))
    (aft : (p : Fin 2) → Dev nD → (w : Fin (cfgs p).W) → Fin (cfgs p).N → ((cfgs p).win w).block.Idx → Elt F ((cfgs p).win w).elt) :
    (p : Fin 2) → (c : Dev nD) → Dat τ (Elt F) (HIx 1) ℕ UU ℕ (Pipeline.pin (pcfgs (F := F)) adm p) c :=
  fun p c => datOf p c (V p c) (aft p c)

/-- The valuation a pipeline leaves: its arrays written back, every other buffer as it was. -/
def leave (p : Fin 2) (c : Dev nD) (V : Valuation τ sig (Elt F))
    (aft : (w : Fin (cfgs p).W) → Fin (cfgs p).N → ((cfgs p).win w).block.Idx → Elt F ((cfgs p).win w).elt) : Valuation τ sig (Elt F) :=
  Pipeline.withArrays (cfgs p).spec c V fun w => (datOf p c V aft).arrAt w (cfgs p).N

/-- A pipeline's array, as it leaves it. -/
theorem leave_arr (p : Fin 2) (kit : Pipeline.LaunchFacts₀ (nD := nD) (τ := τ) cfgs p) (c : Dev nD) (V : Valuation τ sig (Elt F))
    (aft : (w : Fin (cfgs p).W) → Fin (cfgs p).N → ((cfgs p).win w).block.Idx → Elt F ((cfgs p).win w).elt) (w : Fin (cfgs p).W) :
    leave p c V aft (Proc.devRef .tc (Pipeline.arrRef (cfgs p).spec w)) = (datOf p c V aft).arrAt w (cfgs p).N :=
  Dat.withArrays_arrAt (datOf p c V aft) kit.sharedIn V (fun _ => rfl) w

/-- Any other buffer is as it was. -/
theorem leave_of_ne (p : Fin 2) (c : Dev nD) (V : Valuation τ sig (Elt F))
    (aft : (w : Fin (cfgs p).W) → Fin (cfgs p).N → ((cfgs p).win w).block.Idx → Elt F ((cfgs p).win w).elt) (b : Ref sig .tc)
    (hb : ∀ w, Pipeline.arrRef (cfgs p).spec w ≠ b) : leave p c V aft (Proc.devRef .tc b) = V (Proc.devRef .tc b) :=
  Pipeline.withArrays_of_ne _ c V _ b hb

/-- The buffers of a valuation are the pipeline's arrays there and the rest. -/
theorem held_split (p : Fin 2) (kit : Pipeline.LaunchFacts₀ (nD := nD) (τ := τ) cfgs p) (c : Dev nD) (V V' : Valuation τ sig (Elt F))
    (aft : (w : Fin (cfgs p).W) → Fin (cfgs p).N → ((cfgs p).win w).block.Idx → Elt F ((cfgs p).win w).elt) (t : ℕ)
    (hV : ∀ w, (datOf p c V aft).arrAt w t = V' (Proc.devRef .tc (Pipeline.arrRef (cfgs p).spec w))) :
    (StableHlo.held (SparseCore.T c) (Pipeline.ucRefs τ sig) V' : sProp 𝕄)
      = iprop((datOf p c V aft).arrays ((datOf p c V aft).arrAt · t) ∗ Pipeline.unscopedRest (cfgs p).spec c fun b => V' (Proc.devRef .tc b)) := by
  have h := Pipeline.unscopedBufs_held (Ix := HIx 1) (Name := ℕ) (U := UU) (Lvl := ℕ) c V'
  refine h.symm.trans ?_
  rw [Pipeline.unscopedBufs_split₀ cfgs p kit.win.arr_unscoped c,
    Dat.arrBufs_eq_arrays (datOf p c V aft) kit.sharedIn kit.arr_whole (fun _ _ => rfl) _ ((datOf p c V aft).arrAt · t) hV]

set_option backward.isDefEq.respectTransparency.types false in
/-- Either pipeline as a region: every buffer at `V`, the debts; then every buffer at `leave`, the debts. -/
def seg (V : Fin 2 → Dev nD → Valuation τ sig (Elt F))
    (aft : (p : Fin 2) → Dev nD → (w : Fin (cfgs p).W) → Fin (cfgs p).N → ((cfgs p).win w).block.Idx → Elt F ((cfgs p).win w).elt)
    (p : Fin 2) (kit : Pipeline.LaunchFacts₀ (nD := nD) (τ := τ) cfgs p)
    (hbody : ∀ c, Pipeline.BodyObligationLoose (datOf p c (V p c) (aft p c)) (defs₀ (F := F)) 𝒱₀ none Set.univ) :
    Pipeline.RegionSeg (pcfgs (F := F)) adm (pdats V aft) none defs₀ 𝒱₀ (K (F := F)).L (K (F := F)).lev p where
  win := kit.win
  block_pos := kit.block_pos
  stage_whole := kit.stage_whole
  K := PEmpty
  osem k := k.elim
  ho := Pipeline.OwnSemFacts.none _
  hbody := hbody
  hwaits c := Pipeline.cellsWaits_intro _ _ _ p c fun w s t =>
    (K (F := F)).mayWait_none (.dma (((cfgs p).win w).sem s)) (Otc_none c)
  pre c := iprop(StableHlo.held (SparseCore.T c) (Pipeline.ucRefs τ sig) (V p c) ∗ owesT c)
  post c := iprop(StableHlo.held (SparseCore.T c) (Pipeline.ucRefs τ sig) (leave p c (V p c) (aft p c)) ∗ owesT c)
  X _ := BI.emp
  Y _ := BI.emp
  Z c := Pipeline.unscopedRest (cfgs p).spec c fun b => V p c (Proc.devRef .tc b)
  hentry c := by
    rw [Pipeline.ownSems0_none, Pipeline.prefHeld_of_none _ rfl, held_split p kit c (V p c) (V p c) (aft p c) 0 fun w => rfl]
    iintro ⟨⟨⟨Ha, Hr⟩, ⟨%W, %hW, HO⟩⟩, -, -⟩
    imodintro
    isplitl [Ha]; · iexact Ha
    isplitr; · iempintro
    isplitl [HO]
    · unfold Dat.owesAt
      iexists W; isplitr; · ipureintro; exact fun x hx => Or.inl (hW x hx)
      iexact HO
    isplitr; · iempintro
    iexact Hr
  hin c := by
    change _ ⊢ (Pipeline.scopedRest (cfgs p).spec c : sProp 𝕄)
    iintro ⟨-, -, H⟩
    iexact H
  hout c := by
    rw [Pipeline.ownSems0_none]
    change (Pipeline.scopedRest (cfgs p).spec c : sProp 𝕄) ⊢ _
    iintro H
    isplitr; · iempintro
    isplitr; · iempintro
    iexact H
  hexit c := by
    rw [held_split p kit c (V p c) (leave p c (V p c) (aft p c)) (aft p c) (cfgs p).N fun w => (leave_arr p kit c (V p c) (aft p c) w).symm]
    have hr : (Pipeline.unscopedRest (cfgs p).spec c (fun b => leave p c (V p c) (aft p c) (Proc.devRef .tc b)) : sProp 𝕄)
        = Pipeline.unscopedRest (cfgs p).spec c fun b => V p c (Proc.devRef .tc b) := by
      unfold Pipeline.unscopedRest
      refine bigSep_congr fun b hb => ?_
      dsimp only
      rw [leave_of_ne p c (V p c) (aft p c) b fun w e => (Finset.mem_sdiff.mp hb).2 (Finset.mem_image.mpr ⟨w, Finset.mem_univ _, e⟩)]
    rw [hr]
    iintro ⟨Ha, HO, -, Hr⟩
    imodintro
    isplitl [Ha Hr]
    · isplitl [Ha]; · iexact Ha
      iexact Hr
    unfold Dat.owesAt
    icases HO with ⟨%W, %hW, HO⟩
    iexists W
    isplitr; swap; · iexact HO
    ipureintro
    intro x hx
    rcases hW hx with h | ⟨w, s, h⟩
    · exact h
    · subst h; exact le_rfl

end Cert.Proof.K

end
-- ==== Proof.IdxBody.lean ====
/-
  The index pipeline's body at its one point: from the words of the list it leaves, word by word, the row of the packed
  table each names.
-/
module

public import proofs.«01_k».proof.Proof.Region
public import Idealize.ShloMosaic.Lib.Pipeline.FrameBody

@[expose] public section

set_option maxRecDepth 16384

noncomputable section

namespace Cert.Proof.K

open Cert.KernelIdeal Cert.KernelIdeal.Gen

open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat BodyObligation)

variable {F : FTy → Type} [FloatOps F]

local notation "𝕄" => MT nD τ sig (HIx 1) (Elt F) ℕ UU ℕ

/-- A store over a whole buffer from its first element: the buffer reads as what was stored. -/
theorem read_writes_full {κ : Kind} {s : Shape} {sp : Space} {e : EltTy} (v : View sig κ sp s e) (f : v.ty.Contents (Elt F))
    (off : Fin s.rank → ℕ) (h0 : ∀ a, off a = 0) (h : ∀ a, off a + s.size a ≤ s.size a) (w : s.Idx → Elt F e)
    (l : List (View.Piece (Elt F) s e)) :
    v.read (Elt F) (v.writes (Elt F) f (⟨Rect.unit off s.size h, w⟩ :: l)) = w :=
  funext fun y => View.read_writes_cons_hit_of_coords v f (Rect.unit off s.size h) w l y y fun a => by
    show (y a).val = off a + 1 * (y a).val
    rw [h0 a]; omega

/-- A load of a whole buffer from its first element reads all of it. -/
theorem ld_full {s : Shape} {e : EltTy} (X : s.Idx → Elt F e) (off : Fin s.rank → ℕ) (h0 : ∀ a, off a = 0)
    (h : ∀ a, off a + s.size a ≤ s.size a) : View.ld (Val := Elt F) X (Rect.unit off s.size h) = X :=
  funext fun x => congrArg X (funext fun a => Fin.ext (by
    show off a + 1 * (x a).val = (x a).val
    rw [h0 a]; omega))

/-- The offsets of a whole block are zero. -/
theorem zero2 : ∀ a : Fin 2, (![0, 0] : Fin 2 → ℕ) a = 0 := fun | 0 => rfl | 1 => rfl

set_option maxHeartbeats 1000000 in
/-- The body on its two staging buffers: the words' as they were, the result's at `k1_pay1` of them. -/
theorem idx_body (c : Dev nD) (E : Set ℕ) (i : grid1.Coords) (a1 : Memref sig .tc .vmem S100x8192 .i32) (h1 : a1.IsWhole)
    (a2 : Memref sig .tc .vmem S100x8192 .i32) (h2 : a2.IsWhole) (X : S100x8192.Idx → BitVec 32) (k : PUnit → sProp 𝕄) :
    iprop(owns c.tc a1 fullShare X ∗ (∃ d, owns c.tc a2 fullShare d)
        ∗ (iprop(owns c.tc a1 fullShare X ∗ owns c.tc a2 fullShare (k1_pay1 (F := F) X)) -∗ k ⟨⟩))
      ⊢ wp frame (wpE (defs₀ (F := F)) 𝒱₀ c.tc none) E (cc1__idx_body i a1 h1 a2 h2) k := by
  rw [cc1__idx_body_eq_skeleton]; unfold cc1__idx_body_skel
  unfold owns
  iintro ⟨⟨%f1, %hf1, H1⟩, ⟨%d2, %f2, -, H2⟩, Hk⟩
  subst hf1
  sl_exec
  sl_step
  iapply Hk
  isplitl [H1]
  · iexists f1; isplitr; · ipureintro; rfl
    iexact H1
  iexists _; isplitr; swap; · iexact H2
  ipureintro
  refine (read_writes_full _ _ _ zero2 _ _ _).trans ?_
  exact congrArg (k1_pay1 (F := F)) (ld_full (F := F) (e := .i32) _ _ zero2 _)

/-- What the index pipeline's staging buffers hold after the body. -/
def aft1 (c : Dev nD) (V : Valuation τ sig (Elt F)) (w : Fin cfg1.W) (t : Fin cfg1.N) : (cfg1.win w).block.Idx → Elt F (cfg1.win w).elt :=
  match w with
  | ⟨0, _⟩ => ((cfg1.win 0).blk t).view.read (Elt F) (V (Proc.devRef .tc (Pipeline.arrRef spec1 0)))
  | ⟨1, _⟩ => k1_pay1 (F := F) (((cfg1.win 0).blk t).view.read (Elt F) (V (Proc.devRef .tc (Pipeline.arrRef spec1 0))))

/-- The tokens are staged when the body runs. -/
theorem before1_0 (c : Dev nD) (V : Valuation τ sig (Elt F)) (t : Fin cfg1.N) (d : (cfg1.win 0).block.Idx → Elt F (cfg1.win 0).elt) :
    (datOf 1 c V (aft1 c V)).before 0 t d = aft1 c V 0 t :=
  Dat.before_in_eq_fetched (datOf 1 c V (aft1 c V)) 0 rfl (fun _ => rfl) (fun _ _ _ => rfl) (fun _ => rfl) t d

/-- The index pipeline's body obligation. -/
theorem idx_obl (c : Dev nD) (V : Valuation τ sig (Elt F)) :
    BodyObligation (datOf 1 c V (aft1 c V)) (defs₀ (F := F)) 𝒱₀ none Set.univ := fun t => by
  rw [bigSep_W1, bigSep_W1]
  rw [show (datOf 1 c V (aft1 c V)).Φ t.castSucc = (datOf 1 c V (aft1 c V)).Φ t.succ from rfl,
    show (datOf 1 c V (aft1 c V)).owesAt none t.castSucc = (datOf 1 c V (aft1 c V)).owesAt none t.succ from rfl]
  change _ ⊢ wp _ _ _ _ fun _ => iprop((datOf 1 c V (aft1 c V)).Φ t.succ ∗ (datOf 1 c V (aft1 c V)).owesAt none t.succ
    ∗ owns c.tc (st1_0 t) fullShare (aft1 c V 0 t) ∗ owns c.tc (st1_1 t) fullShare (aft1 c V 1 t))
  iintro ⟨HΦ, HO, ⟨%d0, H0⟩, ⟨%d1, H1⟩⟩
  rw [before1_0]
  iapply (idx_body c Set.univ (grid1.coords t) _ (hstage1_0 _) _ (hstage1_1 _) (aft1 c V 0 t) _)
  isplitl [H0]; · iexact H0
  isplitl [H1]; · iexists _; iexact H1
  iintro ⟨H0, H1⟩
  isplitl [HΦ]; · iexact HΦ
  isplitl [HO]; · iexact HO
  isplitl [H0]; · iexact H0
  iexact H1

end Cert.Proof.K

end
-- ==== Proof.TableBody.lean ====
/-
  The table pipeline's body at each of its points: from eight blocks of a thousand rows of embeddings and the four weight
  operands it leaves, for each row, the eight blocks' sixteen outputs side by side.
-/
module

public import proofs.«01_k».proof.Proof.IdxBody

@[expose] public section

set_option maxRecDepth 16384

noncomputable section

namespace Cert.Proof.K

open Cert.KernelIdeal Cert.KernelIdeal.Gen

open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat BodyObligation)

variable {F : FTy → Type} [FloatOps F]

local notation "𝕄" => MT nD τ sig (HIx 1) (Elt F) ℕ UU ℕ

/-- One block's outputs, from the weights and the block's rows. -/
abbrev blockOut (w1 : Vec F S128x100 .f32) (b1 : Vec F S1x100 .f32) (w2 : Vec F S100x16 .f32) (b2 : Vec F S1x16 .f32)
    (x : Vec F S1000x128 .f32) : FVec F S1000x16 .f32 := k0_pay5 w1 b1 w2 b2 x

/-- What the body stores: the eight blocks' outputs side by side. -/
def tableOut (w1 : Vec F S128x100 .f32) (b1 : Vec F S1x100 .f32) (w2 : Vec F S100x16 .f32) (b2 : Vec F S1x16 .f32)
    (x0 x1 x2 x3 x4 x5 x6 x7 : Vec F S1000x128 .f32) : FVec F S1000x128 .f32 :=
  concatenate S1000x128 1 [⟨S1000x16, blockOut w1 b1 w2 b2 x0⟩, ⟨S1000x16, blockOut w1 b1 w2 b2 x1⟩,
    ⟨S1000x16, blockOut w1 b1 w2 b2 x2⟩, ⟨S1000x16, blockOut w1 b1 w2 b2 x3⟩, ⟨S1000x16, blockOut w1 b1 w2 b2 x4⟩,
    ⟨S1000x16, blockOut w1 b1 w2 b2 x5⟩, ⟨S1000x16, blockOut w1 b1 w2 b2 x6⟩, ⟨S1000x16, blockOut w1 b1 w2 b2 x7⟩]
    concatenates_S1000x16_S1000x16_S1000x16_S1000x16_S1000x16_S1000x16_S1000x16_S1000x16_S1000x128_d1

set_option maxHeartbeats 4000000 in
/-- The body on its thirteen staging buffers: the operands as they were, the result's at `tableOut` of them. -/
theorem table_body (c : Dev nD) (E : Set ℕ) (i : grid0.Coords)
    (a1 : Memref sig .tc .vmem S1000x128 .f32) (h1 : a1.IsWhole) (a2 : Memref sig .tc .vmem S1000x128 .f32) (h2 : a2.IsWhole)
    (a3 : Memref sig .tc .vmem S1000x128 .f32) (h3 : a3.IsWhole) (a4 : Memref sig .tc .vmem S1000x128 .f32) (h4 : a4.IsWhole)
    (a5 : Memref sig .tc .vmem S1000x128 .f32) (h5 : a5.IsWhole) (a6 : Memref sig .tc .vmem S1000x128 .f32) (h6 : a6.IsWhole)
    (a7 : Memref sig .tc .vmem S1000x128 .f32) (h7 : a7.IsWhole) (a8 : Memref sig .tc .vmem S1000x128 .f32) (h8 : a8.IsWhole)
    (a9 : Memref sig .tc .vmem S128x100 .f32) (h9 : a9.IsWhole) (a10 : Memref sig .tc .vmem S1x100 .f32) (h10 : a10.IsWhole)
    (a11 : Memref sig .tc .vmem S100x16 .f32) (h11 : a11.IsWhole) (a12 : Memref sig .tc .vmem S1x16 .f32) (h12 : a12.IsWhole)
    (a13 : Memref sig .tc .vmem S1000x128 .f32) (h13 : a13.IsWhole)
    (x0 x1 x2 x3 x4 x5 x6 x7 : Vec F S1000x128 .f32) (w1 : Vec F S128x100 .f32) (b1 : Vec F S1x100 .f32)
    (w2 : Vec F S100x16 .f32) (b2 : Vec F S1x16 .f32) (k : PUnit → sProp 𝕄) :
    iprop(owns c.tc a1 fullShare x0 ∗ owns c.tc a2 fullShare x1 ∗ owns c.tc a3 fullShare x2 ∗ owns c.tc a4 fullShare x3
        ∗ owns c.tc a5 fullShare x4 ∗ owns c.tc a6 fullShare x5 ∗ owns c.tc a7 fullShare x6 ∗ owns c.tc a8 fullShare x7
        ∗ owns c.tc a9 fullShare w1 ∗ owns c.tc a10 fullShare b1 ∗ owns c.tc a11 fullShare w2 ∗ owns c.tc a12 fullShare b2
        ∗ (∃ d, owns c.tc a13 fullShare d)
        ∗ (iprop(owns c.tc a1 fullShare x0 ∗ owns c.tc a2 fullShare x1 ∗ owns c.tc a3 fullShare x2 ∗ owns c.tc a4 fullShare x3
            ∗ owns c.tc a5 fullShare x4 ∗ owns c.tc a6 fullShare x5 ∗ owns c.tc a7 fullShare x6 ∗ owns c.tc a8 fullShare x7
            ∗ owns c.tc a9 fullShare w1 ∗ owns c.tc a10 fullShare b1 ∗ owns c.tc a11 fullShare w2 ∗ owns c.tc a12 fullShare b2
            ∗ owns c.tc a13 fullShare (tableOut w1 b1 w2 b2 x0 x1 x2 x3 x4 x5 x6 x7)) -∗ k ⟨⟩))
      ⊢ wp frame (wpE (defs₀ (F := F)) 𝒱₀ c.tc none) E
          (cc0__table_body i a1 h1 a2 h2 a3 h3 a4 h4 a5 h5 a6 h6 a7 h7 a8 h8 a9 h9 a10 h10 a11 h11 a12 h12 a13 h13) k := by
  rw [cc0__table_body_eq_skeleton]; unfold cc0__table_body_skel
  rw [k0_part1_eq_skeleton, k0_part2_eq_skeleton]; unfold k0_part1_skel k0_part2_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩,
    ⟨%f8, %hf8, H8⟩, ⟨%f9, %hf9, H9⟩, ⟨%f10, %hf10, H10⟩, ⟨%f11, %hf11, H11⟩, ⟨%f12, %hf12, H12⟩, ⟨%d13, %f13, -, H13⟩, Hk⟩
  subst hf1 hf2 hf3 hf4 hf5 hf6 hf7 hf8 hf9 hf10 hf11 hf12
  sl_exec
  sl_step
  iapply Hk
  isplitl [H1]; · iexists f1; isplitr; (· ipureintro; rfl); iexact H1
  isplitl [H2]; · iexists f2; isplitr; (· ipureintro; rfl); iexact H2
  isplitl [H3]; · iexists f3; isplitr; (· ipureintro; rfl); iexact H3
  isplitl [H4]; · iexists f4; isplitr; (· ipureintro; rfl); iexact H4
  isplitl [H5]; · iexists f5; isplitr; (· ipureintro; rfl); iexact H5
  isplitl [H6]; · iexists f6; isplitr; (· ipureintro; rfl); iexact H6
  isplitl [H7]; · iexists f7; isplitr; (· ipureintro; rfl); iexact H7
  isplitl [H8]; · iexists f8; isplitr; (· ipureintro; rfl); iexact H8
  isplitl [H9]; · iexists f9; isplitr; (· ipureintro; rfl); iexact H9
  isplitl [H10]; · iexists f10; isplitr; (· ipureintro; rfl); iexact H10
  isplitl [H11]; · iexists f11; isplitr; (· ipureintro; rfl); iexact H11
  isplitl [H12]; · iexists f12; isplitr; (· ipureintro; rfl); iexact H12
  iexists _; isplitr; swap; · iexact H13
  ipureintro
  refine (read_writes_full _ _ _ zero2 _ _ _).trans ?_
  have hx : ∀ (a : Memref sig .tc .vmem S1000x128 .f32) (f : a.view.ty.Contents (Elt F)),
      a.view.readAt (Elt F) (Rect.unit (s := S1000x128) ![0, 0] S1000x128.size inb_S1000x128_S1000x128_0_0).toLoadRect f = a.view.read (Elt F) f :=
    fun a f => ld_full (F := F) (e := .f32) _ _ zero2 _
  have h9' : a9.view.readAt (Elt F) (Rect.unit (s := S128x100) ![0, 0] S128x100.size inb_S128x100_S128x100_0_0).toLoadRect f9 = a9.view.read (Elt F) f9 :=
    ld_full (F := F) (e := .f32) _ _ zero2 _
  have h10' : a10.view.readAt (Elt F) (Rect.unit (s := S1x100) ![0, 0] S1x100.size inb_S1x100_S1x100_0_0).toLoadRect f10 = a10.view.read (Elt F) f10 :=
    ld_full (F := F) (e := .f32) _ _ zero2 _
  have h11' : a11.view.readAt (Elt F) (Rect.unit (s := S100x16) ![0, 0] S100x16.size inb_S100x16_S100x16_0_0).toLoadRect f11 = a11.view.read (Elt F) f11 :=
    ld_full (F := F) (e := .f32) _ _ zero2 _
  have h12' : a12.view.readAt (Elt F) (Rect.unit (s := S1x16) ![0, 0] S1x16.size inb_S1x16_S1x16_0_0).toLoadRect f12 = a12.view.read (Elt F) f12 :=
    ld_full (F := F) (e := .f32) _ _ zero2 _
  rw [← hx a1 f1, ← hx a2 f2, ← hx a3 f3, ← hx a4 f4, ← hx a5 f5, ← hx a6 f6, ← hx a7 f7, ← hx a8 f8, ← h9', ← h10', ← h11', ← h12']
  rfl

/-- The block an input window of the table pipeline stages at a point. -/
abbrev blk0 (V : Valuation τ sig (Elt F)) (w : Fin cfg0.W) (t : Fin cfg0.N) : ((cfg0.win w).xblock (cfg0.grid.coords t)).Idx → Elt F (cfg0.win w).elt :=
  ((cfg0.win w).blk t).view.read (Elt F) (V (Proc.devRef .tc (Pipeline.arrRef spec0 w)))

/-- What the table pipeline's result holds after the body at a point. -/
abbrev out0 (V : Valuation τ sig (Elt F)) (t : Fin cfg0.N) : S1000x128.Idx → Elt F .f32 :=
  tableOut (blk0 V 8 t) (blk0 V 9 t) (blk0 V 10 t) (blk0 V 11 t) (blk0 V 0 t) (blk0 V 1 t) (blk0 V 2 t) (blk0 V 3 t)
    (blk0 V 4 t) (blk0 V 5 t) (blk0 V 6 t) (blk0 V 7 t)

/-- What the table pipeline's staging buffers hold after the body. -/
def aft0 (_ : Dev nD) (V : Valuation τ sig (Elt F)) (w : Fin cfg0.W) (t : Fin cfg0.N) : (cfg0.win w).block.Idx → Elt F (cfg0.win w).elt :=
  match w with
  | ⟨0, _⟩ => blk0 V 0 t
  | ⟨1, _⟩ => blk0 V 1 t
  | ⟨2, _⟩ => blk0 V 2 t
  | ⟨3, _⟩ => blk0 V 3 t
  | ⟨4, _⟩ => blk0 V 4 t
  | ⟨5, _⟩ => blk0 V 5 t
  | ⟨6, _⟩ => blk0 V 6 t
  | ⟨7, _⟩ => blk0 V 7 t
  | ⟨8, _⟩ => blk0 V 8 t
  | ⟨9, _⟩ => blk0 V 9 t
  | ⟨10, _⟩ => blk0 V 10 t
  | ⟨11, _⟩ => blk0 V 11 t
  | ⟨12, _⟩ => out0 V t

/-- An input window's staging buffer holds its block when the body runs, fetched at the point or kept from the one before. -/
theorem before0 (c : Dev nD) (V : Valuation τ sig (Elt F)) (w : Fin cfg0.W) (hw : (cfg0.win w).isOut = false)
    (hclip : ∀ t t' : Fin cfg0.N, (cfg0.win w).index t = (cfg0.win w).index t' →
      (cfg0.win w).clip (cfg0.grid.coords t) = (cfg0.win w).clip (cfg0.grid.coords t'))
    (hkeep : ∀ t, (cfg0.win w).cut (cfg0.grid.coords t) ((datOf 0 c V (aft0 c V)).after w t) = (datOf 0 c V (aft0 c V)).blockOf w t)
    (t : Fin cfg0.N) (d : (cfg0.win w).block.Idx → Elt F (cfg0.win w).elt) :
    (datOf 0 c V (aft0 c V)).before w t d = (datOf 0 c V (aft0 c V)).fetched w t d :=
  Dat.before_in_eq_fetched (datOf 0 c V (aft0 c V)) w hw (fun _ => rfl) hclip hkeep t d

set_option maxHeartbeats 4000000 in
/-- The table pipeline's body obligation. -/
theorem table_obl (c : Dev nD) (V : Valuation τ sig (Elt F)) :
    BodyObligation (datOf 0 c V (aft0 c V)) (defs₀ (F := F)) 𝒱₀ none Set.univ := fun t => by
  rw [bigSep_W0, bigSep_W0]
  rw [show (datOf 0 c V (aft0 c V)).Φ t.castSucc = (datOf 0 c V (aft0 c V)).Φ t.succ from rfl,
    show (datOf 0 c V (aft0 c V)).owesAt none t.castSucc = (datOf 0 c V (aft0 c V)).owesAt none t.succ from rfl]
  change _ ⊢ wp _ _ _ _ fun _ => iprop((datOf 0 c V (aft0 c V)).Φ t.succ ∗ (datOf 0 c V (aft0 c V)).owesAt none t.succ
    ∗ owns c.tc (st0_0 t) fullShare (blk0 V 0 t) ∗ owns c.tc (st0_1 t) fullShare (blk0 V 1 t)
    ∗ owns c.tc (st0_2 t) fullShare (blk0 V 2 t) ∗ owns c.tc (st0_3 t) fullShare (blk0 V 3 t)
    ∗ owns c.tc (st0_4 t) fullShare (blk0 V 4 t) ∗ owns c.tc (st0_5 t) fullShare (blk0 V 5 t)
    ∗ owns c.tc (st0_6 t) fullShare (blk0 V 6 t) ∗ owns c.tc (st0_7 t) fullShare (blk0 V 7 t)
    ∗ owns c.tc (st0_8 t) fullShare (blk0 V 8 t) ∗ owns c.tc (st0_9 t) fullShare (blk0 V 9 t)
    ∗ owns c.tc (st0_10 t) fullShare (blk0 V 10 t) ∗ owns c.tc (st0_11 t) fullShare (blk0 V 11 t)
    ∗ owns c.tc (st0_12 t) fullShare (out0 V t))
  iintro ⟨HΦ, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩,
    ⟨%d10, H10⟩, ⟨%d11, H11⟩, ⟨%d12, H12⟩⟩
  rw [before0 c V 0 rfl (fun _ _ _ => rfl) (fun _ => rfl) t d0, before0 c V 1 rfl (fun _ _ _ => rfl) (fun _ => rfl) t d1,
    before0 c V 2 rfl (fun _ _ _ => rfl) (fun _ => rfl) t d2, before0 c V 3 rfl (fun _ _ _ => rfl) (fun _ => rfl) t d3,
    before0 c V 4 rfl (fun _ _ _ => rfl) (fun _ => rfl) t d4, before0 c V 5 rfl (fun _ _ _ => rfl) (fun _ => rfl) t d5,
    before0 c V 6 rfl (fun _ _ _ => rfl) (fun _ => rfl) t d6, before0 c V 7 rfl (fun _ _ _ => rfl) (fun _ => rfl) t d7,
    before0 c V 8 rfl (fun _ _ _ => rfl) (fun _ => rfl) t d8, before0 c V 9 rfl (fun _ _ _ => rfl) (fun _ => rfl) t d9,
    before0 c V 10 rfl (fun _ _ _ => rfl) (fun _ => rfl) t d10, before0 c V 11 rfl (fun _ _ _ => rfl) (fun _ => rfl) t d11]
  iapply (table_body c Set.univ (grid0.coords t) (st0_0 t) (hstage0_0 _) (st0_1 t) (hstage0_1 _) (st0_2 t) (hstage0_2 _)
    (st0_3 t) (hstage0_3 _) (st0_4 t) (hstage0_4 _) (st0_5 t) (hstage0_5 _) (st0_6 t) (hstage0_6 _) (st0_7 t) (hstage0_7 _)
    (st0_8 t) (hstage0_8 _) (st0_9 t) (hstage0_9 _) (st0_10 t) (hstage0_10 _) (st0_11 t) (hstage0_11 _) (st0_12 t) (hstage0_12 _)
    (blk0 V 0 t) (blk0 V 1 t) (blk0 V 2 t) (blk0 V 3 t) (blk0 V 4 t) (blk0 V 5 t) (blk0 V 6 t) (blk0 V 7 t)
    (blk0 V 8 t) (blk0 V 9 t) (blk0 V 10 t) (blk0 V 11 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  iintro H
  isplitl [HΦ]; · iexact HΦ
  isplitl [HO]; · iexact HO
  iexact H

end Cert.Proof.K

end
-- ==== Proof.Tile.lean ====
/-
  THE GATHER KERNEL'S TASK, once, at a symbolic SparseCore and tile: the tile fetches its 25600 row numbers, then moves
  twenty chunks of 1280 rows, five gathers in flight at once, each chunk's rows gathered from the table into one of five row
  buffers and copied out to the tile's chunk of the result.
-/
module

public import proofs.«01_k».proof.Proof.Setup

@[expose] public section

set_option maxRecDepth 16384

noncomputable section

namespace Cert.Proof.K

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The memrefs the task is run on -/

/-- The table, -/
abbrev tV : Memref sig .scVector .hbm S1000000x16 .f32 := Memref.whole main_v5_scv
/-- the list -/
abbrev lV : Memref sig .scVector .hbm S819200 .i32 := Memref.whole main_v9_scv
/-- and the result, whole, as a tile names them; -/
abbrev oV : Memref sig .scVector .hbm S819200x16 .f32 := Memref.whole main_v10_scv
/-- its own copy of the list's run -/
abbrev iV : Memref sig .scVector .vmem S25600 .i32 := Memref.whole cc2_scratch0
/-- and its five buffers: the first, -/
abbrev b0V : Memref sig .scVector .vmem S1280x16 .f32 := Memref.whole cc2_scratch1
/-- the second, -/
abbrev b1V : Memref sig .scVector .vmem S1280x16 .f32 := Memref.whole cc2_scratch2
/-- the third, -/
abbrev b2V : Memref sig .scVector .vmem S1280x16 .f32 := Memref.whole cc2_scratch3
/-- the fourth -/
abbrev b3V : Memref sig .scVector .vmem S1280x16 .f32 := Memref.whole cc2_scratch4
/-- and the fifth. -/
abbrev b4V : Memref sig .scVector .vmem S1280x16 .f32 := Memref.whole cc2_scratch5

/-- A tile's SparseCore -/
abbrev cV (L : grid2.Coords) : Fin τ.nSC := (L 0).castLE hcore2
/-- and its number there. -/
abbrev jV (L : grid2.Coords) : Fin τ.nSub := (L 1).castLE hsub2
/-- There are two SparseCores -/
theorem bound_core : grid2.bound 0 = 2 := rfl
/-- of sixteen tiles each. -/
theorem bound_sub : grid2.bound 1 = 16 := rfl
/-- The part the tile works on. -/
abbrev wL (L : grid2.Coords) : Fin 32 := wid (Fin.cast bound_core (L 0)) (Fin.cast bound_sub (L 1))

/-- A tile's worker number. -/
theorem wL_val (L : grid2.Coords) : (wL L).val = 2 * (L 1).val + (L 0).val := rfl

/-- The table as the task addresses it: all of it; -/
abbrev tAllK : Memref sig .scVector .hbm S1000000x16 .f32 :=
  tV.slice (Rect.unit (s := S1000000x16) ![0, 0] S1000000x16.size inb_S1000000x16_S1000000x16_0_0) (fun _ => rfl)
/-- its part of the list; -/
abbrev lRowK (L : grid2.Coords) : Memref sig .scVector .hbm S25600 .i32 :=
  lV.slice (Rect.unit (s := S819200) (k2_off1 L) S25600.size (k2_off1_inb L)) (fun _ => rfl)
/-- a chunk of its fetched row numbers; -/
abbrev iChunkK (off : Fin 1 → ℕ) (h : ∀ a, off a + S1280.size a ≤ S25600.size a) : Memref sig .scVector .vmem S1280 .i32 :=
  iV.slice (Rect.unit (s := S25600) off S1280.size h) (fun _ => rfl)
/-- and a chunk of its part of the result. -/
abbrev oChunkK (L : grid2.Coords) (c : BitVec 32) (h : ∀ a, (k2_off2 L c) a + S1280x16.size a ≤ S819200x16.size a) :
    Memref sig .scVector .hbm S1280x16 .f32 :=
  oV.slice (Rect.unit (s := S819200x16) (k2_off2 L c) S1280x16.size h) (fun _ => rfl)

/-! ## The sets they address -/

/-- The whole table covers every index. -/
theorem set_tAllK : tAllK.view.set = (Finset.univ : Finset S1000000x16.Idx) := by
  refine Finset.eq_univ_iff_forall.mpr fun x => ?_
  show x ∈ ((View.whole (main_v5_scv : Ref sig .scVector)).slice _).set
  rw [View.set_slice_whole, Rect.mem_set_unit]
  intro a
  match a with
  | 0 => exact ⟨Nat.zero_le _, (x 0).isLt.trans_le (by decide)⟩
  | 1 => exact ⟨Nat.zero_le _, (x 1).isLt.trans_le (by decide)⟩

/-- A tile's run of the list covers its part. -/
theorem set_lRowK (L : grid2.Coords) : (lRowK L).view.set = lSet (wL L) := by
  show ((View.whole (main_v9_scv : Ref sig .scVector)).slice (Rect.unit (s := S819200) (k2_off1 L) S25600.size (k2_off1_inb L))).set = (Rect.part (s := S819200) (a₀ := 0) ldiv (wL L)).set
  rw [View.set_slice_whole]
  have e : Rect.unit (s := S819200) (k2_off1 L) S25600.size (k2_off1_inb L) = Rect.part (s := S819200) (a₀ := 0) ldiv (wL L) := by
    unfold Rect.part Rect.block
    congr 1 <;> funext a
    · rw [k2_off1_eq]
      match a with
      | 0 => simp [Shape.partIx, Shape.partSize, wL_val]; omega
    · match a with
      | 0 => simp [Shape.partSize]
  rw [e]

/-- A chunk of the result covers its part. -/
theorem set_oChunkK (L : grid2.Coords) (j : Fin 20) :
    (oChunkK L (BitVec.ofNat 32 (1280 * j.val)) (k2_off2_inb L j)).view.set = oSet (chunk (wL L) j) := by
  show ((View.whole (main_v10_scv : Ref sig .scVector)).slice (Rect.unit (s := S819200x16) (k2_off2 L (BitVec.ofNat 32 (1280 * j.val))) S1280x16.size (k2_off2_inb L j))).set = (Rect.part (s := S819200x16) (a₀ := 0) odiv (chunk (wL L) j)).set
  rw [View.set_slice_whole]
  have e : Rect.unit (s := S819200x16) (k2_off2 L (BitVec.ofNat 32 (1280 * j.val))) S1280x16.size (k2_off2_inb L j)
      = Rect.part (s := S819200x16) (a₀ := 0) odiv (chunk (wL L) j) := by
    unfold Rect.part Rect.block
    congr 1 <;> funext a
    · rw [k2_off2_eq]
      match a with
      | 0 => simp [Shape.partIx, Shape.partSize, wL_val, chunk]; omega
      | 1 => simp [Shape.partIx, Shape.partSize]
    · match a with
      | 0 => simp [Shape.partSize]
      | 1 => simp [Shape.partSize]
  rw [e]

variable (d : Dev nD) (L : grid2.Coords)

/-- The tile's own thread. -/
abbrev thr (d : Dev nD) (L : grid2.Coords) : Thread nD τ := V d (cV L) (jV L)

/-- Holding a tile's run of the list, as a part of the buffer; -/
theorem pts_lRowK (f : Buf (Elt F) (lLoc d)) :
    ((lRowK L).view.loc (thr d L) ↦[(lRowK L).view.set]{fullShare} f : sProp 𝕄) = lLoc d ↦[lSet (wL L)]{fullShare} f := by
  rw [set_lRowK]
/-- a share of the table; -/
theorem pts_tAllK (q : PosShare TreeShare) (f : Buf (Elt F) (tLoc d)) :
    (tAllK.view.loc (thr d L) ↦[tAllK.view.set]{q} f : sProp 𝕄) = tLoc d ↦{q} f := by
  rw [set_tAllK]
/-- a chunk of the result. -/
theorem pts_oChunkK (j : Fin 20) (f : Buf (Elt F) (oLoc d)) :
    ((oChunkK L (BitVec.ofNat 32 (1280 * j.val)) (k2_off2_inb L j)).view.loc (thr d L)
        ↦[(oChunkK L (BitVec.ofNat 32 (1280 * j.val)) (k2_off2_inb L j)).view.set]{fullShare} f : sProp 𝕄)
      = oLoc d ↦[oSet (chunk (wL L) j)]{fullShare} f := by
  rw [set_oChunkK]

/-! ## The tile's own semaphores and scratch buffers -/

/-- The semaphores the task names. -/
abbrev semK : Fin 11 → DmaSem sig :=
  ![cc2_scoped0.sem, cc2_scratch6.sem, cc2_scratch7.sem, cc2_scratch8.sem, cc2_scratch9.sem, cc2_scratch10.sem,
    cc2_scratch11.sem, cc2_scratch12.sem, cc2_scratch13.sem, cc2_scratch14.sem, cc2_scratch15.sem]
/-- The tile's semaphores are distinct -/
theorem semK_injective : Function.Injective semK := by decide
/-- Their cells on the tile. -/
def cellK : Fin 11 ↪ GSem nD τ sig := ⟨fun k => (thr d L, .dma (semK k)), fun a b h => semK_injective (by
  have := (Prod.mk.inj h).2; exact SemLoc.dma.inj this)⟩
/-- and are its own. -/
theorem cellK_own : Finset.univ.map (cellK d L) ⊆ ownCells (thr d L) := by
  intro g hg
  obtain ⟨k, -, rfl⟩ := Finset.mem_map.mp hg
  refine mem_ownCells.mpr ⟨rfl, ?_⟩
  clear hg; revert k; show ∀ k : Fin 11, (SemLoc.dma (semK k) : SemLoc sig).isScoped .scVector = true
  decide

/-- The buffers it names. -/
abbrev bufK : Fin 6 → Ref sig .scVector := ![cc2_scratch0, cc2_scratch1, cc2_scratch2, cc2_scratch3, cc2_scratch4, cc2_scratch5]
/-- The tile's buffers are distinct, -/
theorem bufK_injective : Function.Injective bufK := by decide
/-- each a buffer of the device -/
def refK : Fin 6 ↪ DevRef τ sig := ⟨fun k => (Proc.scVector (cV L) (jV L)).devRef (bufK k), fun _ _ h => bufK_injective (Proc.devRef_injective _ h)⟩
/-- and the tile's own. -/
theorem refK_own : Finset.univ.map (refK L) ⊆ ownRefs (τ := τ) (.scVector (cV L) (jV L)) := by
  intro b hb
  obtain ⟨k, -, rfl⟩ := Finset.mem_map.mp hb
  refine SparseCore.Cfg.mem_ownRefs_of_owner (p := Proc.scVector (cV L) (jV L)) ?_
  revert k; show ∀ k : Fin 6, _
  intro k _
  fin_cases k <;> rfl

/-- Five things held, one by one; -/
theorem bigSep_fin5 (Φ : Fin 5 → sProp 𝕄) : bigSep Finset.univ Φ = iprop(Φ 0 ∗ Φ 1 ∗ Φ 2 ∗ Φ 3 ∗ Φ 4) := by
  iterate 4 rw [bigSep_univ_succ]
  rw [bigSep_univ_of_subsingleton (0 : Fin 1)]; rfl
/-- six; -/
theorem bigSep_fin6 (Φ : Fin 6 → sProp 𝕄) : bigSep Finset.univ Φ = iprop(Φ 0 ∗ Φ 1 ∗ Φ 2 ∗ Φ 3 ∗ Φ 4 ∗ Φ 5) := by
  iterate 5 rw [bigSep_univ_succ]
  rw [bigSep_univ_of_subsingleton (0 : Fin 1)]; rfl
/-- eleven; -/
theorem bigSep_fin11 (Φ : Fin 11 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10) := by
  iterate 10 rw [bigSep_univ_succ]
  rw [bigSep_univ_of_subsingleton (0 : Fin 1)]; rfl
/-- twenty. -/
theorem bigSep_fin20 (Φ : Fin 20 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14
      ∗ Φ 15 ∗ Φ 16 ∗ Φ 17 ∗ Φ 18 ∗ Φ 19) := by
  iterate 19 rw [bigSep_univ_succ]
  rw [bigSep_univ_of_subsingleton (0 : Fin 1)]; rfl

/-- One of the tile's counters, at zero. -/
abbrev sem0 (s : DmaSems sig S_) : sProp 𝕄 := semVal (thr d L, SemLoc.dma s.sem) 0

/-- The task's semaphores are among the tile's own: they are them, at zero, and the rest. -/
theorem ownSems0_V :
    (ownSems0 (thr d L) : sProp 𝕄)
      = iprop((sem0 d L cc2_scoped0 ∗ sem0 d L cc2_scratch6 ∗ sem0 d L cc2_scratch7 ∗ sem0 d L cc2_scratch8 ∗ sem0 d L cc2_scratch9
            ∗ sem0 d L cc2_scratch10 ∗ sem0 d L cc2_scratch11 ∗ sem0 d L cc2_scratch12 ∗ sem0 d L cc2_scratch13 ∗ sem0 d L cc2_scratch14
            ∗ sem0 d L cc2_scratch15)
          ∗ bigSep (ownCells (thr d L) \ Finset.univ.map (cellK d L)) fun g => semVal g 0) := by
  unfold SparseCore.Cfg.ownSems0
  rw [SparseCore.bigSep_sdiff_split' (cellK_own d L), bigSep_map, bigSep_fin11]; rfl

/-- A scratch buffer of the tile at some contents. -/
abbrev scr (b : Ref sig .scVector) : sProp 𝕄 := iprop(∃ f, (thr d L).loc b ↦{fullShare} f)

/-- The task's scratch buffers are among the tile's own: they are them, at some contents, and the rest. -/
theorem ownBufs_V :
    (ownBufs (thr d L) : sProp 𝕄)
      = iprop((scr d L cc2_scratch0 ∗ scr d L cc2_scratch1 ∗ scr d L cc2_scratch2 ∗ scr d L cc2_scratch3 ∗ scr d L cc2_scratch4 ∗ scr d L cc2_scratch5)
          ∗ bigSep (ownRefs (τ := τ) (.scVector (cV L) (jV L)) \ Finset.univ.map (refK L)) fun b => iprop(∃ f, ((d, b) : Loc nD τ sig) ↦{fullShare} f)) := by
  unfold SparseCore.Cfg.ownBufs
  refine (SparseCore.bigSep_sdiff_split' (refK_own L)).trans ?_
  rw [bigSep_map, bigSep_fin6]; rfl

end Cert.Proof.K

end
-- ==== Proof.Chunk.lean ====
/-
  WHAT ONE CHUNK HOLDS when the task has copied it out: the rows of the table that the chunk's row numbers name.
-/
module

public import proofs.«01_k».proof.Proof.Tile

@[expose] public section

set_option maxRecDepth 16384

noncomputable section

namespace Cert.Proof.K

open Cert.KernelIdeal Cert.KernelIdeal.Gen

open Idealize.ShloMosaic
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (SparseCore.Cfg.HIx 1) (Elt F) ℕ UU ℕ

/-- A view written whole last reads as what was written. -/
theorem read_writes_whole {κ : Kind} {s : Shape} {sp : Space} {e : EltTy} (v : View sig κ sp s e) (f : v.ty.Contents (Elt F))
    (w : s.Idx → Elt F e) (l : List (View.Piece (Elt F) s e)) :
    v.read (Elt F) (v.writes (Elt F) f (⟨Rect.whole s, w⟩ :: l)) = w :=
  funext fun y => View.read_writes_cons_hit_of_coords v f (Rect.whole s) w l y y fun a => by
    show (y a).val = 0 + 1 * (y a).val
    omega

variable (tab : (d : Dev nD) → Buf (Elt F) (tLoc d)) (lst : (d : Dev nD) → Buf (Elt F) (lLoc d)) (out : (d : Dev nD) → Buf (Elt F) (oLoc d))
variable (d : Dev nD) (L : grid2.Coords)

/-- The row numbers the tile fetches. -/
abbrev rowsOf : S25600.Idx → BitVec 32 := (lRowK L).view.read (Elt F) (lst d)

/-- They all name rows of the table. -/
theorem inb_rows (hpre : PreOK (F := F) lst) (off : Fin 1 → ℕ) (h : ∀ a, off a + S1280.size a ≤ S25600.size a) (x : S1280.Idx) :
    ((iChunkK off h).view.read (Elt F) (rowsOf (F := F) lst d L) x : BitVec 32).toNat < S1000000x16.size gathers_S1000000x16_S1280x16.axis :=
  hpre d _

/-- A chunk of the result as the task spells it, held at contents `f`. -/
abbrev oPt (c : BitVec 32) (h : ∀ a, (k2_off2 L c) a + S1280x16.size a ≤ S819200x16.size a) (f : Buf (Elt F) (oLoc d)) : sProp 𝕄 :=
  (oChunkK L c h).view.loc (thr d L) ↦[(oChunkK L c h).view.set]{fullShare} f

/-- The word at entry `k` of chunk `j`, in the tile's fetched row numbers, is the list's word at the chunk's row `k`. -/
theorem chunk_word (j : Fin 20) (h : ∀ a, (![1280 * j.val] : Fin 1 → ℕ) a + S1280.size a ≤ S25600.size a) (k : S1280.Idx) (r : S819200.Idx)
    (hr : (r 0).val = 51200 * (L 1).val + 25600 * (L 0).val + 1280 * j.val + (k 0).val) :
    (iChunkK ![1280 * j.val] h).view.read (Elt F) (rowsOf (F := F) lst d L) k = lst d r := by
  show (lst d ((lRowK L).view.emb ((iChunkK ![1280 * j.val] h).view.emb k)) : BitVec 32) = _
  refine congrArg (lst d) (funext fun a => ?_)
  match a with
  | 0 =>
    apply Fin.ext
    show (k2_off1 L) 0 + 1 * (1280 * j.val + 1 * (k 0).val) = (r 0).val
    rw [k2_off1_eq, hr]
    show 51200 * (L 1).val + 25600 * (L 0).val + 1 * (1280 * j.val + 1 * (k 0).val) = _
    omega

/-- A chunk written with the gather of its row numbers holds, at its own elements, what the gather leaves. -/
theorem chunk_eq (hpre : PreOK (F := F) lst) (j : Fin 20) (h : ∀ a, (![1280 * j.val] : Fin 1 → ℕ) a + S1280.size a ≤ S25600.size a)
    (hn : S1280.numel = S1280x16.size gathers_S1000000x16_S1280x16.axis') (f : Buf (Elt F) (oLoc d)) :
    ∀ x ∈ (oChunkK L (BitVec.ofNat 32 (1280 * j.val)) (k2_off2_inb L j)).view.set,
      (oChunkK L (BitVec.ofNat 32 (1280 * j.val)) (k2_off2_inb L j)).view.writes (Elt F) f
        [⟨Rect.whole S1280x16, SparseCore.gatherPayload gathers_S1000000x16_S1280x16 (tAllK.view.read (Elt F) (tab d))
          (SparseCore.rows ((iChunkK ![1280 * j.val] h).view.read (Elt F) (rowsOf (F := F) lst d L)) hn (inb_rows lst d L hpre _ h))⟩] x
        = OUT tab lst d x := by
  intro x hx
  obtain ⟨y, -, rfl⟩ := Finset.mem_map.mp hx
  have hw := congrFun (read_writes_whole (F := F) (oChunkK L (BitVec.ofNat 32 (1280 * j.val)) (k2_off2_inb L j)).view f
    (SparseCore.gatherPayload gathers_S1000000x16_S1280x16 (tAllK.view.read (Elt F) (tab d))
          (SparseCore.rows ((iChunkK ![1280 * j.val] h).view.read (Elt F) (rowsOf (F := F) lst d L)) hn (inb_rows lst d L hpre _ h))) []) y
  rw [View.read_apply] at hw
  refine (cast_eq _ _).symm.trans (hw.trans ?_)
  have e0 : ((oChunkK L (BitVec.ofNat 32 (1280 * j.val)) (k2_off2_inb L j)).view.emb y 0).val
      = 51200 * (L 1).val + 25600 * (L 0).val + 1280 * j.val + (y 0).val := by
    show (k2_off2 L (BitVec.ofNat 32 (1280 * j.val))) 0 + 1 * (y 0).val = _
    rw [k2_off2_eq]
    show 51200 * (L 1).val + 25600 * (L 0).val + 1280 * j.val + 1 * (y 0).val = _
    omega
  have e1 : ((oChunkK L (BitVec.ofNat 32 (1280 * j.val)) (k2_off2_inb L j)).view.emb y 1).val = (y 1).val := by
    show (k2_off2 L (BitVec.ofNat 32 (1280 * j.val))) 1 + 1 * (y 1).val = _
    rw [k2_off2_eq]
    show 0 + 1 * (y 1).val = _
    omega
  have hk : ∀ k : Fin 1280, (S1280.rowMajor.symm (Fin.cast rfl k) 0).val = k.val := by
    intro k
    have := congrArg Fin.val (S1280.rowMajor.apply_symm_apply (Fin.cast rfl k))
    rw [Shape.rowMajor_val_one] at this
    exact this
  show tab d (tAllK.view.emb (gathers_S1000000x16_S1280x16.idx _ y)) = tab d _
  refine congrArg (tab d) (funext fun a => Fin.ext ?_)
  match a with
  | 0 =>
    show 0 + 1 * ((iChunkK ![1280 * j.val] h).view.read (Elt F) (rowsOf (F := F) lst d L) (S1280.rowMajor.symm (Fin.cast rfl (y 0))) : BitVec 32).toNat
      = (lst d _ : BitVec 32).toNat % 1000000
    rw [Nat.mod_eq_of_lt (hpre d _), Nat.zero_add, Nat.one_mul]
    refine congrArg BitVec.toNat (chunk_word lst d L j h _ _ ?_)
    exact e0.trans (congrArg (51200 * (L 1).val + 25600 * (L 0).val + 1280 * j.val + ·) (hk (y 0)).symm)
  | 1 =>
    show 0 + 1 * (y 1).val = _
    rw [Nat.zero_add, Nat.one_mul]; exact e1.symm

/-- The same of the points-to: the chunk, written with the gather of its row numbers, is held at what the gather leaves. -/
theorem chunk_done (hpre : PreOK (F := F) lst) (j : Fin 20) (h : ∀ a, (![1280 * j.val] : Fin 1 → ℕ) a + S1280.size a ≤ S25600.size a)
    (hn : S1280.numel = S1280x16.size gathers_S1000000x16_S1280x16.axis') (f : Buf (Elt F) (oLoc d)) (pay : S1280x16.Idx → Elt F .f32)
    (hpay : pay = SparseCore.gatherPayload gathers_S1000000x16_S1280x16 (tAllK.view.read (Elt F) (tab d))
          (SparseCore.rows ((iChunkK ![1280 * j.val] h).view.read (Elt F) (rowsOf (F := F) lst d L)) hn (inb_rows lst d L hpre _ h))) :
    (oPt d L (BitVec.ofNat 32 (1280 * j.val)) (k2_off2_inb L j)
        ((oChunkK L (BitVec.ofNat 32 (1280 * j.val)) (k2_off2_inb L j)).view.writes (Elt F) f [⟨Rect.whole S1280x16, pay⟩]) : sProp 𝕄)
      ⊢ oPt d L (BitVec.ofNat 32 (1280 * j.val)) (k2_off2_inb L j) (OUT tab lst d) := by
  subst hpay
  exact Entails.of_eq (pointsTo_congr (chunk_eq tab lst d L hpre j h hn f))

end Cert.Proof.K

end
-- ==== Proof.TileRun.lean ====
/-
  The task's run.
-/
module

public import proofs.«01_k».proof.Proof.Chunk

@[expose] public section

set_option maxRecDepth 16384

noncomputable section

namespace Cert.Proof.K

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]
variable (tab : (d : Dev nD) → Buf (Elt F) (tLoc d)) (lst : (d : Dev nD) → Buf (Elt F) (lLoc d)) (out : (d : Dev nD) → Buf (Elt F) (oLoc d))
variable (d : Dev nD) (L : grid2.Coords)

/-- The tile's part of the result is its twenty chunks, as the task spells them. -/
theorem oChunks_eq (f : Buf (Elt F) (oLoc d)) :
    (bigSep Finset.univ fun j : Fin 20 => (oLoc d ↦[oSet (chunk (wL L) j)]{fullShare} f : sProp 𝕄))
      = iprop(oPt d L 0#32 (k2_off2_inb L 0) f ∗ oPt d L 1280#32 (k2_off2_inb L 1) f ∗ oPt d L 2560#32 (k2_off2_inb L 2) f
          ∗ oPt d L 3840#32 (k2_off2_inb L 3) f ∗ oPt d L 5120#32 (k2_off2_inb L 4) f ∗ oPt d L 6400#32 (k2_off2_inb L 5) f
          ∗ oPt d L 7680#32 (k2_off2_inb L 6) f ∗ oPt d L 8960#32 (k2_off2_inb L 7) f ∗ oPt d L 10240#32 (k2_off2_inb L 8) f
          ∗ oPt d L 11520#32 (k2_off2_inb L 9) f ∗ oPt d L 12800#32 (k2_off2_inb L 10) f ∗ oPt d L 14080#32 (k2_off2_inb L 11) f
          ∗ oPt d L 15360#32 (k2_off2_inb L 12) f ∗ oPt d L 16640#32 (k2_off2_inb L 13) f ∗ oPt d L 17920#32 (k2_off2_inb L 14) f
          ∗ oPt d L 19200#32 (k2_off2_inb L 15) f ∗ oPt d L 20480#32 (k2_off2_inb L 16) f ∗ oPt d L 21760#32 (k2_off2_inb L 17) f
          ∗ oPt d L 23040#32 (k2_off2_inb L 18) f ∗ oPt d L 24320#32 (k2_off2_inb L 19) f) := by
  rw [← bigSep_congr (fun j _ => pts_oChunkK d L j f), bigSep_fin20]; rfl

/-- A wait the kernel adds at no index keeps the set within the earlier one and the waits at no index. -/
theorem waits_insert {W W' : Waits sig (HIx 1)} (h : ∀ p ∈ W', p ∈ W ∨ p.2 = none) (s : SemLoc sig) :
    ∀ p ∈ insert (s, (default : HIx 1)) W', p ∈ W ∨ p.2 = none := by
  intro p hp
  rcases Finset.mem_insert.mp hp with rfl | hp
  · exact Or.inr rfl
  · exact h p hp

set_option maxHeartbeats 40000000 in
/-- THE TASK: from its part of the operands the tile runs to its return, and hands the part back with every chunk of the
result holding the rows of the table that the chunk's row numbers name. -/
theorem tile_body (hF : (K (F := F)).Facts) (hpre : PreOK (F := F) lst) (O : CellTallies nD τ sig (HIx 1)) (W : Waits sig (HIx 1)) (hO : ∀ g, O g none = 0) :
    iprop(levAts (K (F := F)).L (K (F := F)).lev ∗ emp
        ∗ tileRes tab lst d (wL L) (out d)
        ∗ scopedBufs (thr d L) ∗ scopedSems0 (thr d L) ∗ owes (thr d L) O W)
      ⊢ wp frame (wpE (defs₀ (F := F)) 𝒱₀ (thr d L) none) Set.univ
          (cc2_gather_kernel L tV (Memref.isWhole_whole _) lV (Memref.isWhole_whole _) oV (Memref.isWhole_whole _)
            iV (Memref.isWhole_whole _) b0V (Memref.isWhole_whole _) b1V (Memref.isWhole_whole _) b2V (Memref.isWhole_whole _)
            b3V (Memref.isWhole_whole _) b4V (Memref.isWhole_whole _)
            cc2_scratch6 cc2_scratch7 cc2_scratch8 cc2_scratch9 cc2_scratch10 cc2_scratch11 cc2_scratch12 cc2_scratch13 cc2_scratch14 cc2_scratch15 cc2_scoped0)
          fun _ => iprop(tileRes tab lst d (wL L) (OUT tab lst d)
            ∗ scopedBufs (thr d L) ∗ scopedSems0 (thr d L)
            ∗ ∃ W', ⌜∀ p ∈ W', p ∈ W ∨ p.2 = none⌝ ∗ owes (thr d L) O W') := by
  rw [(K (F := F)).scopedBufs_V hF d (cV L) (jV L), SparseCore.Cfg.scopedSems0_V (Val := Elt F) d (cV L) (jV L), ownSems0_V, ownBufs_V]
  unfold tileRes
  rw [oChunks_eq, oChunks_eq, ← bigSep_congr (fun k _ => pts_tAllK d L (tQ (wL L) k) (tab d)), bigSep_fin5, ← pts_lRowK]
  iintro ⟨#Hlv, -, ⟨Hl, ⟨Ht0, Ht1, Ht2, Ht3, Ht4⟩, Ho0, Ho1, Ho2, Ho3, Ho4, Ho5, Ho6, Ho7, Ho8, Ho9, Ho10, Ho11, Ho12, Ho13, Ho14, Ho15, Ho16, Ho17, Ho18, Ho19⟩,
    ⟨⟨⟨%fi, Hi⟩, ⟨%f0, Hb0⟩, ⟨%f1, Hb1⟩, ⟨%f2, Hb2⟩, ⟨%f3, Hb3⟩, ⟨%f4, Hb4⟩⟩, Hbufs⟩,
    ⟨⟨Hs, Hg0, Hg1, Hg2, Hg3, Hg4, Hw0, Hw1, Hw2, Hw3, Hw4⟩, Hsems⟩, HO⟩
  ihave Hmw := (show levAts (K (F := F)).L (K (F := F)).lev ⊢ Transfers.MayWaits (thr d L) (default : HIx 1) O from
    (K (F := F)).mayWaits_none (thr := thr d L) hO) $$ Hlv
  ihave Hi' := (Entails.of_eq (show ((thr d L).loc cc2_scratch0 ↦{fullShare} fi : sProp 𝕄) = iV.view.loc (thr d L) ↦{fullShare} fi from rfl)) $$ Hi
  ihave Hb0' := (Entails.of_eq (show ((thr d L).loc cc2_scratch1 ↦{fullShare} f0 : sProp 𝕄) = b0V.view.loc (thr d L) ↦{fullShare} f0 from rfl)) $$ Hb0
  ihave Hb1' := (Entails.of_eq (show ((thr d L).loc cc2_scratch2 ↦{fullShare} f1 : sProp 𝕄) = b1V.view.loc (thr d L) ↦{fullShare} f1 from rfl)) $$ Hb1
  ihave Hb2' := (Entails.of_eq (show ((thr d L).loc cc2_scratch3 ↦{fullShare} f2 : sProp 𝕄) = b2V.view.loc (thr d L) ↦{fullShare} f2 from rfl)) $$ Hb2
  ihave Hb3' := (Entails.of_eq (show ((thr d L).loc cc2_scratch4 ↦{fullShare} f3 : sProp 𝕄) = b3V.view.loc (thr d L) ↦{fullShare} f3 from rfl)) $$ Hb3
  ihave Hb4' := (Entails.of_eq (show ((thr d L).loc cc2_scratch5 ↦{fullShare} f4 : sProp 𝕄) = b4V.view.loc (thr d L) ↦{fullShare} f4 from rfl)) $$ Hb4
  rw [cc2_gather_kernel_eq_skeleton]; unfold cc2_gather_kernel_skel
  sl_exec
  ihave Hi2 := (Entails.of_eq (show (iV.view.loc (thr d L) ↦{fullShare} View.write (Elt F) iV.view fi (tile_body.sl.dma0 lst d L) Finset.univ : sProp 𝕄)
      = iV.view.loc (thr d L) ↦{fullShare} rowsOf (F := F) lst d L from congrArg (fun g => (iV.view.loc (thr d L) ↦{fullShare} g : sProp 𝕄)) (View.write_whole_univ _ _ _))) $$ Hi'
  have hin : ∀ (off : Fin 1 → ℕ) (h : ∀ a, off a + S1280.size a ≤ S25600.size a) (x : S1280.Idx),
      ((iChunkK off h).view.read (Elt F) (rowsOf (F := F) lst d L) x : BitVec 32).toNat < S1000000x16.size gathers_S1000000x16_S1280x16.axis :=
    inb_rows lst d L hpre
  sl_exec
  ihave Ho0 := (chunk_done tab lst d L hpre 0 (by decide) rfl (out d) (tile_body.sl.dma0_1 tab lst d L f0 hin) (read_writes_whole b0V.view f0 _ _)) $$ Ho0
  ihave Ho1 := (chunk_done tab lst d L hpre 1 (by decide) rfl (out d) (tile_body.sl.dma0_2 tab lst d L f1 hin) (read_writes_whole b1V.view f1 _ _)) $$ Ho1
  ihave Ho2 := (chunk_done tab lst d L hpre 2 (by decide) rfl (out d) (tile_body.sl.dma0_3 tab lst d L f2 hin) (read_writes_whole b2V.view f2 _ _)) $$ Ho2
  ihave Ho3 := (chunk_done tab lst d L hpre 3 (by decide) rfl (out d) (tile_body.sl.dma0_4 tab lst d L f3 hin) (read_writes_whole b3V.view f3 _ _)) $$ Ho3
  ihave Ho4 := (chunk_done tab lst d L hpre 4 (by decide) rfl (out d) (tile_body.sl.dma0_5 tab lst d L f4 hin) (read_writes_whole b4V.view f4 _ _)) $$ Ho4
  ihave Ho5 := (chunk_done tab lst d L hpre 5 (by decide) rfl (out d) (tile_body.sl.dma0_6 tab lst d L f0 hin) (read_writes_whole b0V.view f0 _ _)) $$ Ho5
  ihave Ho6 := (chunk_done tab lst d L hpre 6 (by decide) rfl (out d) (tile_body.sl.dma0_7 tab lst d L f1 hin) (read_writes_whole b1V.view f1 _ _)) $$ Ho6
  ihave Ho7 := (chunk_done tab lst d L hpre 7 (by decide) rfl (out d) (tile_body.sl.dma0_8 tab lst d L f2 hin) (read_writes_whole b2V.view f2 _ _)) $$ Ho7
  ihave Ho8 := (chunk_done tab lst d L hpre 8 (by decide) rfl (out d) (tile_body.sl.dma0_9 tab lst d L f3 hin) (read_writes_whole b3V.view f3 _ _)) $$ Ho8
  ihave Ho9 := (chunk_done tab lst d L hpre 9 (by decide) rfl (out d) (tile_body.sl.dma0_10 tab lst d L f4 hin) (read_writes_whole b4V.view f4 _ _)) $$ Ho9
  ihave Ho10 := (chunk_done tab lst d L hpre 10 (by decide) rfl (out d) (tile_body.sl.dma0_11 tab lst d L f0 hin) (read_writes_whole b0V.view f0 _ _)) $$ Ho10
  ihave Ho11 := (chunk_done tab lst d L hpre 11 (by decide) rfl (out d) (tile_body.sl.dma0_12 tab lst d L f1 hin) (read_writes_whole b1V.view f1 _ _)) $$ Ho11
  ihave Ho12 := (chunk_done tab lst d L hpre 12 (by decide) rfl (out d) (tile_body.sl.dma0_13 tab lst d L f2 hin) (read_writes_whole b2V.view f2 _ _)) $$ Ho12
  ihave Ho13 := (chunk_done tab lst d L hpre 13 (by decide) rfl (out d) (tile_body.sl.dma0_14 tab lst d L f3 hin) (read_writes_whole b3V.view f3 _ _)) $$ Ho13
  ihave Ho14 := (chunk_done tab lst d L hpre 14 (by decide) rfl (out d) (tile_body.sl.dma0_15 tab lst d L f4 hin) (read_writes_whole b4V.view f4 _ _)) $$ Ho14
  ihave Ho15 := (chunk_done tab lst d L hpre 15 (by decide) rfl (out d) (tile_body.sl.dma0_16 tab lst d L f0 hin) (read_writes_whole b0V.view f0 _ _)) $$ Ho15
  ihave Ho16 := (chunk_done tab lst d L hpre 16 (by decide) rfl (out d) (tile_body.sl.dma0_17 tab lst d L f1 hin) (read_writes_whole b1V.view f1 _ _)) $$ Ho16
  ihave Ho17 := (chunk_done tab lst d L hpre 17 (by decide) rfl (out d) (tile_body.sl.dma0_18 tab lst d L f2 hin) (read_writes_whole b2V.view f2 _ _)) $$ Ho17
  ihave Ho18 := (chunk_done tab lst d L hpre 18 (by decide) rfl (out d) (tile_body.sl.dma0_19 tab lst d L f3 hin) (read_writes_whole b3V.view f3 _ _)) $$ Ho18
  ihave Ho19 := (chunk_done tab lst d L hpre 19 (by decide) rfl (out d) (tile_body.sl.dma0_20 tab lst d L f4 hin) (read_writes_whole b4V.view f4 _ _)) $$ Ho19
  sl_step
  isplitl [Hl Ht0 Ht1 Ht2 Ht3 Ht4 Ho0 Ho1 Ho2 Ho3 Ho4 Ho5 Ho6 Ho7 Ho8 Ho9 Ho10 Ho11 Ho12 Ho13 Ho14 Ho15 Ho16 Ho17 Ho18 Ho19]
  · isplitl [Hl]; · iexact Hl
    isplitl [Ht0 Ht1 Ht2 Ht3 Ht4]
    · isplitl [Ht0]; · iexact Ht0
      isplitl [Ht1]; · iexact Ht1
      isplitl [Ht2]; · iexact Ht2
      isplitl [Ht3]; · iexact Ht3
      iexact Ht4
    isplitl [Ho0]; · iexact Ho0
    isplitl [Ho1]; · iexact Ho1
    isplitl [Ho2]; · iexact Ho2
    isplitl [Ho3]; · iexact Ho3
    isplitl [Ho4]; · iexact Ho4
    isplitl [Ho5]; · iexact Ho5
    isplitl [Ho6]; · iexact Ho6
    isplitl [Ho7]; · iexact Ho7
    isplitl [Ho8]; · iexact Ho8
    isplitl [Ho9]; · iexact Ho9
    isplitl [Ho10]; · iexact Ho10
    isplitl [Ho11]; · iexact Ho11
    isplitl [Ho12]; · iexact Ho12
    isplitl [Ho13]; · iexact Ho13
    isplitl [Ho14]; · iexact Ho14
    isplitl [Ho15]; · iexact Ho15
    isplitl [Ho16]; · iexact Ho16
    isplitl [Ho17]; · iexact Ho17
    isplitl [Ho18]; · iexact Ho18
    iexact Ho19
  isplitl [Hi2 Hb0' Hb1' Hb2' Hb3' Hb4' Hbufs]
  · isplitl [Hi2 Hb0' Hb1' Hb2' Hb3' Hb4']
    · isplitl [Hi2]; · iexists _; iexact Hi2
      isplitl [Hb0']; · iexists _; iexact Hb0'
      isplitl [Hb1']; · iexists _; iexact Hb1'
      isplitl [Hb2']; · iexists _; iexact Hb2'
      isplitl [Hb3']; · iexists _; iexact Hb3'
      iexists _; iexact Hb4'
    iexact Hbufs
  isplitl [Hs Hg0 Hg1 Hg2 Hg3 Hg4 Hw0 Hw1 Hw2 Hw3 Hw4 Hsems]
  · isplitl [Hs Hg0 Hg1 Hg2 Hg3 Hg4 Hw0 Hw1 Hw2 Hw3 Hw4]
    · isplitl [Hs]; · iexact Hs
      isplitl [Hg0]; · iexact Hg0
      isplitl [Hg1]; · iexact Hg1
      isplitl [Hg2]; · iexact Hg2
      isplitl [Hg3]; · iexact Hg3
      isplitl [Hg4]; · iexact Hg4
      isplitl [Hw0]; · iexact Hw0
      isplitl [Hw1]; · iexact Hw1
      isplitl [Hw2]; · iexact Hw2
      isplitl [Hw3]; · iexact Hw3
      iexact Hw4
    iexact Hsems
  iexists _
  isplitr; swap; · iexact HO
  ipureintro
  iterate 41 refine waits_insert ?_ _
  exact fun p hp => Or.inl hp

end Cert.Proof.K

end
-- ==== Proof.TileObl.lean ====
/-
  The tile's run as the launch theorem asks for it: every tile of the gather call, from what it is handed to what it
  hands back.
-/
module

public import proofs.«01_k».proof.Proof.TileRun

@[expose] public section

set_option maxRecDepth 16384

noncomputable section

namespace Cert.Proof.K

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-- The waits a tile adds are of its own, as the launch theorem lets them be. -/
theorem obl_post {A B C : sProp 𝕄} {thr : Thread nD τ} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, ⟨%W', %hW', HO⟩⟩
  isplitl [HA]; · iexact HA
  isplitl [HB]; · iexact HB
  isplitl [HC]; · iexact HC
  iexists W'
  isplitr; swap; · iexact HO
  ipureintro
  exact fun p hp => (hW' p hp).imp_right Or.inl

/-- A tile's coordinates in the call's grid. -/
def coordsV (c : Fin (grid2.bound 0)) (s : Fin (grid2.bound 1)) : grid2.Coords :=
  fun | 0 => c | 1 => s | ⟨_ + 2, h⟩ => absurd h (Nat.not_lt.2 (Nat.le_add_left _ _))

/-- The tile's row of the body table. -/
theorem defs₀_vector (c : Fin τ.nSC) (s : Fin τ.nSub) :
    defs₀ (F := F) (.scVector c s) 2 () = SparseCore.onTile hcore2 hsub2 (fun c s => cc2_gather_kernel (F := F) (coordsV c s)
      (Memref.whole main_v5_scv) (Memref.isWhole_whole _) (Memref.whole main_v9_scv) (Memref.isWhole_whole _)
      (Memref.whole main_v10_scv) (Memref.isWhole_whole _) (Memref.whole cc2_scratch0) (Memref.isWhole_whole _)
      (Memref.whole cc2_scratch1) (Memref.isWhole_whole _) (Memref.whole cc2_scratch2) (Memref.isWhole_whole _)
      (Memref.whole cc2_scratch3) (Memref.isWhole_whole _) (Memref.whole cc2_scratch4) (Memref.isWhole_whole _)
      (Memref.whole cc2_scratch5) (Memref.isWhole_whole _) cc2_scratch6 cc2_scratch7 cc2_scratch8 cc2_scratch9 cc2_scratch10
      cc2_scratch11 cc2_scratch12 cc2_scratch13 cc2_scratch14 cc2_scratch15 cc2_scoped0) ⟨⟩ c s := rfl

variable (tab : (d : Dev nD) → Buf (Elt F) (tLoc d)) (lst : (d : Dev nD) → Buf (Elt F) (lLoc d)) (out : (d : Dev nD) → Buf (Elt F) (oLoc d))

/-- Every tile of the call, from its start to its finish. -/
theorem tileObl (hpre : PreOK lst) : (K (F := F)).TileObl (D (F := F)) 𝒱 (P tab lst out) v₀ 0 := by
  intro d c i O W hO _ _
  simp only [show (P tab lst out).ox = fun _ _ => 0 from rfl, add_zero]
  have hci : ((K (F := F)).core 0 c).val < grid2.bound 0 ∧ ((K (F := F)).sub 0 i).val < grid2.bound 1 := ⟨c.isLt, i.isLt⟩
  change _ ⊢ wp _ _ _ (Pipeline.liftProg (defs₀ (F := F) (.scVector ((K (F := F)).core 0 c) ((K (F := F)).sub 0 i)) 2 ())) _
  refine BI.Entails.trans ?_ (Pipeline.wp_liftProg (D (F := F)) (Pipeline.defs_kernel pcfgs defs₀) 𝒱₀ _ Set.univ none _ _)
  rw [defs₀_vector]
  simp only [SparseCore.onTile, hci, and_self, ↓reduceDIte]
  exact (tile_body tab lst out d (coordsV ⟨_, hci.1⟩ ⟨_, hci.2⟩) facts hpre O W hO).trans (wp_mono frame _ _ fun _ => obl_post)

end Cert.Proof.K

end
-- ==== Proof.Host.lean ====
/-
  @main's host operations, in the four stretches between its three calls, and what the device's buffers hold between
  them: each stretch rewrites its results, each pipeline its arrays, the gather its result.
-/
module

public import proofs.«01_k».proof.Proof.TableBody
public import proofs.«01_k».proof.Proof.TileObl

@[expose] public section

set_option maxRecDepth 16384

noncomputable section

namespace Cert.Proof.K

open Cert.KernelIdeal Cert.KernelIdeal.Gen

open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig (HIx 1) (Elt F) ℕ UU ℕ

/-! ## The host stretches -/

/-- Before the table pipeline: the second layer's weights and bias padded to sixteen columns, the biases as rows. -/
def ops1 : List (HloOp τ sig (Elt F)) :=
  [StableHlo.nullary main_c (constantI S_ 32 0#32),
   StableHlo.TRef.unary (.of main_c : StableHlo.TRef sig ⟨S_, .i32⟩) main_call0.v0 (sitofp .f32),
   StableHlo.TRef.binary (.of main_arg4 : StableHlo.TRef sig ⟨S100x9, .f32⟩) main_call0.v0 main_call0.v1
     (fun x v => pad S100x16 ![0, 0] ![0, 7] ![0, 0] x v pads_S100x9_S100x16_000_070 h_S_),
   StableHlo.nullary main_c_0 (constantI S_ 32 0#32),
   StableHlo.TRef.unary (.of main_c_0 : StableHlo.TRef sig ⟨S_, .i32⟩) main_call1.v0 (sitofp .f32),
   StableHlo.TRef.binary (.of main_arg5 : StableHlo.TRef sig ⟨S9, .f32⟩) main_call1.v0 main_call1.v1
     (fun x v => pad S16 ![0] ![7] ![0] x v pads_S9_S16_070 h_S_),
   StableHlo.reshape main_v1 main_v2 (rfl : (.f32 : EltTy) = .f32) shapeCasts_S16_S1x16,
   StableHlo.reshape main_arg3 main_v3 (rfl : (.f32 : EltTy) = .f32) shapeCasts_S100_S1x100]

/-- Before the index pipeline: the table as rows of sixteen, the tokens as a hundred rows. -/
def ops2 : List (HloOp τ sig (Elt F)) :=
  [StableHlo.reshape main_v4 main_v5 (rfl : (.f32 : EltTy) = .f32) shapeCasts_S125000x128_S1000000x16,
   StableHlo.reshape main_arg0 main_v6 (rfl : (.i32 : EltTy) = .i32) shapeCasts_S4096x200_S819200,
   StableHlo.reshape main_v6 main_v7 (rfl : (.i32 : EltTy) = .i32) shapeCasts_S819200_S100x8192]

/-- Before the gather: the row numbers as one list. -/
def ops3 : List (HloOp τ sig (Elt F)) :=
  [StableHlo.reshape main_v8 main_v9 (rfl : (.i32 : EltTy) = .i32) shapeCasts_S100x8192_S819200]

/-- After it: the first nine columns, in the tokens' shape. -/
def ops4 : List (HloOp τ sig (Elt F)) :=
  [StableHlo.unary main_v10 main_v11 ((extractStridedSlice S819200x9 ![0, 0] · slices_S819200x16_S819200x9_0_0) : (⟨S819200x16, .f32⟩ : BufTy).Contents (Elt F) → (⟨S819200x9, .f32⟩ : BufTy).Contents (Elt F)),
   StableHlo.reshape main_v11 main_v12 (rfl : (.f32 : EltTy) = .f32) shapeCasts_S819200x9_S4096x200x9]

/-- @main: the stretches and the calls, in order. -/
theorem main_eq (d : Dev nD) : main (F := F) d =
    (StableHlo.seq ops1 >>= fun _ => SparseCore.liftProg (.op (.customCall (Pipeline.entry 0) ()) .ret) >>= fun _ =>
      StableHlo.seq ops2 >>= fun _ => SparseCore.liftProg (.op (.customCall (Pipeline.entry 1) ()) .ret) >>= fun _ =>
      StableHlo.seq ops3 >>= fun _ => (K (F := F)).run d 0 >>= fun _ => StableHlo.seq ops4 >>= fun _ => pure ⟨⟩) := rfl

/-- Each stretch works on the core's buffers: the first, -/
theorem ops1_bufs : ∀ op ∈ (ops1 : List (HloOp τ sig (Elt F))), op.bufs ⊆ Pipeline.ucRefs τ sig := by
  intro op h
  refine Pipeline.sub_ucRefs op ?_
  revert op
  exact List.forall_iff_forall_mem.mp ⟨StableHlo.nullary_bufs_sub _ _ _, StableHlo.unary_bufs_sub _ _ _ _ _, StableHlo.binary_bufs_sub _ _ _ _ _ _ _,
    StableHlo.nullary_bufs_sub _ _ _, StableHlo.unary_bufs_sub _ _ _ _ _, StableHlo.binary_bufs_sub _ _ _ _ _ _ _,
    StableHlo.reshape_bufs_sub _ _ _ _ _ _, StableHlo.reshape_bufs_sub _ _ _ _ _ _⟩
/-- the second, -/
theorem ops2_bufs : ∀ op ∈ (ops2 : List (HloOp τ sig (Elt F))), op.bufs ⊆ Pipeline.ucRefs τ sig := by
  intro op h
  refine Pipeline.sub_ucRefs op ?_
  revert op
  exact List.forall_iff_forall_mem.mp ⟨StableHlo.reshape_bufs_sub _ _ _ _ _ _, StableHlo.reshape_bufs_sub _ _ _ _ _ _, StableHlo.reshape_bufs_sub _ _ _ _ _ _⟩
/-- the third, -/
theorem ops3_bufs : ∀ op ∈ (ops3 : List (HloOp τ sig (Elt F))), op.bufs ⊆ Pipeline.ucRefs τ sig := by
  intro op h
  refine Pipeline.sub_ucRefs op ?_
  revert op
  exact List.forall_iff_forall_mem.mp (StableHlo.reshape_bufs_sub _ _ _ _ _ _)
/-- the fourth. -/
theorem ops4_bufs : ∀ op ∈ (ops4 : List (HloOp τ sig (Elt F))), op.bufs ⊆ Pipeline.ucRefs τ sig := by
  intro op h
  refine Pipeline.sub_ucRefs op ?_
  revert op
  exact List.forall_iff_forall_mem.mp ⟨StableHlo.unary_bufs_sub _ _ _ _ _, StableHlo.reshape_bufs_sub _ _ _ _ _ _⟩

/-- No stretch draws a fresh value: not the first, -/
theorem ops1_fresh : ∀ op ∈ (ops1 : List (HloOp τ sig (Elt F))), op.fresh = ∅ :=
  List.forall_iff_forall_mem.mp ⟨rfl, rfl, rfl, rfl, rfl, rfl, rfl, rfl⟩
/-- the second, -/
theorem ops2_fresh : ∀ op ∈ (ops2 : List (HloOp τ sig (Elt F))), op.fresh = ∅ :=
  List.forall_iff_forall_mem.mp ⟨rfl, rfl, rfl⟩
/-- the third -/
theorem ops3_fresh : ∀ op ∈ (ops3 : List (HloOp τ sig (Elt F))), op.fresh = ∅ :=
  List.forall_iff_forall_mem.mp (show _ from rfl)
/-- or the fourth. -/
theorem ops4_fresh : ∀ op ∈ (ops4 : List (HloOp τ sig (Elt F))), op.fresh = ∅ :=
  List.forall_iff_forall_mem.mp ⟨rfl, rfl⟩

/-! ## What the buffers hold -/

variable (m : (ℓ : Loc nD τ sig) → Buf (Elt F) ℓ)

/-- When the table pipeline is entered; -/
def V1 (d : Dev nD) : Valuation τ sig (Elt F) := StableHlo.after ops1 (StableHlo.launchContents m d)
/-- left; -/
def V2 (d : Dev nD) : Valuation τ sig (Elt F) := leave 0 d (V1 m d) (aft0 d (V1 m d))
/-- when the index pipeline is entered; -/
def V3 (d : Dev nD) : Valuation τ sig (Elt F) := StableHlo.after ops2 (V2 m d)
/-- left; -/
def V4 (d : Dev nD) : Valuation τ sig (Elt F) := leave 1 d (V3 m d) (aft1 d (V3 m d))
/-- when the gather is called. -/
def V5 (d : Dev nD) : Valuation τ sig (Elt F) := StableHlo.after ops3 (V4 m d)

/-- The gather's table, -/
def tabM (d : Dev nD) : Buf (Elt F) (tLoc d) := V5 m d (Proc.devRef .tc main_v5)
/-- its row numbers -/
def lstM (d : Dev nD) : Buf (Elt F) (lLoc d) := V5 m d (Proc.devRef .tc main_v9)
/-- and its result as it finds it. -/
def outM (d : Dev nD) : Buf (Elt F) (oLoc d) := V5 m d (Proc.devRef .tc main_v10)

/-- When it returns; -/
def V6 (d : Dev nD) : Valuation τ sig (Elt F) :=
  Function.update (V5 m d) (Proc.devRef .tc main_v10) (OUT (tabM m) (lstM m) d)
/-- and at the end. -/
def V7 (d : Dev nD) : Valuation τ sig (Elt F) := StableHlo.after ops4 (V6 m d)

/-- The pipelines' entry valuations by pipeline, -/
def VV : Fin 2 → Dev nD → Valuation τ sig (Elt F)
  | 0 => V1 m
  | 1 => V3 m
/-- and their staging contents. -/
def AA : (p : Fin 2) → Dev nD → (w : Fin (cfgs p).W) → Fin (cfgs p).N → ((cfgs p).win w).block.Idx → Elt F ((cfgs p).win w).elt
  | 0 => fun d => aft0 d (V1 m d)
  | 1 => fun d => aft1 d (V3 m d)

/-- The gather's buffers, as device references. -/
abbrev gBufs : Finset (DevRef τ sig) := {Proc.devRef .tc main_v9, Proc.devRef .tc main_v5, Proc.devRef .tc main_v10}

/-- They are buffers of the core. -/
theorem gBufs_sub : gBufs ⊆ Pipeline.ucRefs τ sig := by
  intro b hb
  simp only [Finset.mem_insert, Finset.mem_singleton] at hb
  rcases hb with rfl | rfl | rfl
  all_goals exact Finset.mem_filter.mpr ⟨StableHlo.devRef_mem_tcRefs _, by decide⟩

/-- Holding them is holding each. -/
theorem held_gBufs (d : Dev nD) (V : Valuation τ sig (Elt F)) :
    (StableHlo.held (SparseCore.T d) gBufs V : sProp 𝕄) = iprop((lLoc d ↦{fullShare} (V (Proc.devRef .tc main_v9) : Buf (Elt F) (lLoc d)))
      ∗ (tLoc d ↦{fullShare} (V (Proc.devRef .tc main_v5) : Buf (Elt F) (tLoc d))) ∗ oLoc d ↦{fullShare} (V (Proc.devRef .tc main_v10) : Buf (Elt F) (oLoc d))) := by
  unfold StableHlo.held gBufs
  rw [SparseCore.bigSep_insert' (by decide), SparseCore.bigSep_insert' (by decide), bigSep_singleton]

/-- The buffers when the gather is called: its operands, dealt to the SparseCores, and the rest. -/
theorem held_call (d : Dev nD) :
    (StableHlo.held (SparseCore.T d) (Pipeline.ucRefs τ sig) (V5 m d) : sProp 𝕄)
      = iprop((bigSep Finset.univ fun c : Fin 2 => coreRes (tabM m) (lstM m) d c (outM m d))
        ∗ StableHlo.held (SparseCore.T d) (Pipeline.ucRefs τ sig \ gBufs) (V5 m d)) := by
  rw [StableHlo.held_sub_split _ gBufs_sub, held_gBufs, ← operands_eq (tabM m) (lstM m) d (outM m d)]
  rfl

/-- The buffers when it returns. -/
theorem held_ret (d : Dev nD) :
    (StableHlo.held (SparseCore.T d) (Pipeline.ucRefs τ sig) (V6 m d) : sProp 𝕄)
      = iprop((bigSep Finset.univ fun c : Fin 2 => coreRes (tabM m) (lstM m) d c (OUT (tabM m) (lstM m) d))
        ∗ StableHlo.held (SparseCore.T d) (Pipeline.ucRefs τ sig \ gBufs) (V5 m d)) := by
  have e9 : V6 m d (Proc.devRef .tc main_v9) = V5 m d (Proc.devRef .tc main_v9) :=
    Function.update_of_ne (StableHlo.devRef_ne_of_ne (by decide)) _ _
  have e5 : V6 m d (Proc.devRef .tc main_v5) = V5 m d (Proc.devRef .tc main_v5) :=
    Function.update_of_ne (StableHlo.devRef_ne_of_ne (by decide)) _ _
  have e10 : V6 m d (Proc.devRef .tc main_v10) = OUT (tabM m) (lstM m) d := Function.update_self _ _ _
  rw [StableHlo.held_sub_split _ gBufs_sub, held_gBufs, e9, e5, e10, ← operands_eq (tabM m) (lstM m) d]
  refine congrArg₂ (fun A B : sProp 𝕄 => iprop(A ∗ B)) rfl (StableHlo.held_congr _ fun b hb => ?_)
  refine Function.update_of_ne (fun e => (Finset.mem_sdiff.mp hb).2 ?_) _ _
  rw [e]; exact Finset.mem_insert_of_mem (Finset.mem_insert_of_mem (Finset.mem_singleton_self _))

end Cert.Proof.K

end
-- ==== Proof.Args.lean ====
/-
  What the run reads and what it keeps: the arguments at every point of @main where a call reads them, the list of row
  numbers as a function of the tokens, and the arguments at the end.
-/
module

public import proofs.«01_k».proof.Proof.Host
public import proofs.«01_k».proof.Proof.Gen.Pre_tokens_in_vocab
public import Idealize.ShloMosaic.Lib.ReduceAll
public import Idealize.ShloMosaic.Lib.WordCmp
public import Idealize.ShloMosaic.Lib.Affine
public import Idealize.ShloMosaic.Lib.Pointwise
public import Idealize.ShloMosaic.Lib.Pipeline.ValueKit

@[expose] public section

set_option maxRecDepth 16384

noncomputable section

namespace Cert.Proof.K

open Cert.KernelIdeal Cert.KernelIdeal.Gen

open Idealize.ShloMosaic Idealize.ShloMosaic.TcCoe
open Idealize.ShloMosaic.SparseCore.Cfg (HIx)
open Idealize.SL.Sem
open Idealize.ShloMosaic.Pipeline (Dat)

variable {F : FTy → Type} [FloatOps F]

/-! ## The tokens -/

/-- The precondition bounds every token. -/
theorem tok_lt (x : IVec S4096x200 32) (a1 : FVec F S1000000x128 .f32) (a2 : FVec F S128x100 .f32) (a3 : FVec F S100 .f32)
    (a4 : FVec F S100x9 .f32) (a5 : FVec F S9 .f32)
    (h : Cert.Pre_tokens_in_vocab.fn (F := F) x a1 a2 a3 a4 a5 = fun _ => 1#1) (i : S4096x200.Idx) : (x i).toNat < 1000000 := by
  have hs : Subsingleton Cert.Pre_tokens_in_vocab.S_.Idx := ⟨fun a b => funext fun k => k.elim0⟩
  have e := Host.reduce_andi_all _ _ _ _ (Shape.Idx.first (Cert.Pre_tokens_in_vocab.Facts.h_S_)) (congrFun h _) i
  have e' : IntOp.andi (IntOp.cmpi .sge (x i) 0#32) (IntOp.cmpi .slt (x i) (BitVec.ofNat 32 1000000)) = 1#1 := e
  rw [WordCmp.andi_sge_zero_slt_ofNat (by decide)] at e'
  by_contra hc
  rw [decide_eq_false hc] at e'
  exact absurd e' (by decide)

/-- Where the packed table holds the row of token `v`. -/
abbrev pos (v : ℕ) : ℕ := v % 125000 * 8 + v / 125000

/-- That row lies in the table. -/
theorem pos_lt {v : ℕ} (h : v < 1000000) : pos v < 1000000 := by
  unfold pos; omega

/-- The word the index pipeline makes of a token. -/
theorem word_pos (v : BitVec 32) (h : v.toNat < 1000000) (u : ArithUnit) :
    (IntOp.addi (IntOp.muli (IntOp.subi v (IntOp.muli (IntOp.divsi u v 125000#32) 125000#32)) 8#32) (IntOp.divsi u v 125000#32)).toNat
      = pos v.toNat := by
  have hd : IntOp.divsi u v 125000#32 = v / 125000#32 := by
    have hm : v.msb = false := by rw [BitVec.msb_eq_false_iff_two_mul_lt]; omega
    unfold IntOp.divsi
    rw [if_neg (by rintro (e | ⟨-, e⟩) <;> exact absurd e (by decide)), BitVec.sdiv_eq, hm]
    rfl
  rw [hd]
  simp only [IntOp.addi, IntOp.muli, IntOp.subi, BitVec.toNat_add, BitVec.toNat_mul, BitVec.toNat_sub, BitVec.toNat_udiv, BitVec.toNat_ofNat, Nat.reducePow, Nat.reduceMod]
  unfold pos
  omega

/-! ## The arguments where they are read -/

variable (m : (ℓ : Loc nD τ sig) → Buf (Elt F) ℓ)

/-- The table pipeline keeps its operands. -/
theorem V2_in (d : Dev nD) (w : Fin cfg0.W) (h : (cfg0.win w).isOut = false) :
    V2 m d (Proc.devRef .tc (Pipeline.arrRef spec0 w)) = V1 m d (Proc.devRef .tc (Pipeline.arrRef spec0 w)) :=
  (leave_arr 0 launch₀0 d (V1 m d) (aft0 d (V1 m d)) w).trans (Dat.arrAt_in _ w h _)

/-- The arguments when the table pipeline is entered, -/
theorem V1_arg (d : Dev nD) (b : Ref sig .tc)
    (hb : b = main_arg0 ∨ b = main_arg1 ∨ b = main_arg2 ∨ b = main_arg3 ∨ b = main_arg4 ∨ b = main_arg5) :
    V1 m d (Proc.devRef .tc b) = m ((SparseCore.T d).loc b) := by
  rcases hb with rfl | rfl | rfl | rfl | rfl | rfl <;>
  · unfold V1 ops1
    after_results

/-- the tokens when it is left, -/
theorem V2_arg0 (d : Dev nD) : V2 m d (Proc.devRef .tc main_arg0) = m ((SparseCore.T d).loc main_arg0) :=
  (leave_of_ne 0 d (V1 m d) (aft0 d (V1 m d)) main_arg0 (by decide)).trans (V1_arg m d _ (.inl rfl))

/-- and every argument then. -/
theorem V2_arg (d : Dev nD) (b : Ref sig .tc)
    (hb : b = main_arg0 ∨ b = main_arg1 ∨ b = main_arg2 ∨ b = main_arg3 ∨ b = main_arg4 ∨ b = main_arg5) :
    V2 m d (Proc.devRef .tc b) = m ((SparseCore.T d).loc b) := by
  refine Eq.trans ?_ (V1_arg m d b hb)
  rcases hb with rfl | rfl | rfl | rfl | rfl | rfl
  · exact leave_of_ne 0 d (V1 m d) (aft0 d (V1 m d)) main_arg0 (by decide)
  · exact V2_in m d 0 rfl
  · exact V2_in m d 8 rfl
  · exact leave_of_ne 0 d (V1 m d) (aft0 d (V1 m d)) main_arg3 (by decide)
  · exact leave_of_ne 0 d (V1 m d) (aft0 d (V1 m d)) main_arg4 (by decide)
  · exact leave_of_ne 0 d (V1 m d) (aft0 d (V1 m d)) main_arg5 (by decide)

/-- The arguments at the end. -/
theorem V7_arg (d : Dev nD) (b : Ref sig .tc)
    (hb : b = main_arg0 ∨ b = main_arg1 ∨ b = main_arg2 ∨ b = main_arg3 ∨ b = main_arg4 ∨ b = main_arg5) :
    V7 m d (Proc.devRef .tc b) = m ((SparseCore.T d).loc b) := by
  have e76 : V7 m d (Proc.devRef .tc b) = V6 m d (Proc.devRef .tc b) := by
    rcases hb with rfl | rfl | rfl | rfl | rfl | rfl <;>
    · unfold V7 ops4
      after_results
  have e65 : V6 m d (Proc.devRef .tc b) = V5 m d (Proc.devRef .tc b) := by
    rcases hb with rfl | rfl | rfl | rfl | rfl | rfl <;>
    exact Function.update_of_ne (StableHlo.devRef_ne_of_ne (by decide)) _ _
  have e54 : V5 m d (Proc.devRef .tc b) = V4 m d (Proc.devRef .tc b) := by
    rcases hb with rfl | rfl | rfl | rfl | rfl | rfl <;>
    · unfold V5 ops3
      after_results
  have e43 : V4 m d (Proc.devRef .tc b) = V3 m d (Proc.devRef .tc b) := by
    rcases hb with rfl | rfl | rfl | rfl | rfl | rfl <;>
    exact leave_of_ne 1 d (V3 m d) (aft1 d (V3 m d)) _ (by decide)
  have e32 : V3 m d (Proc.devRef .tc b) = V2 m d (Proc.devRef .tc b) := by
    rcases hb with rfl | rfl | rfl | rfl | rfl | rfl <;>
    · unfold V3 ops2
      after_results
  exact e76.trans (e65.trans (e54.trans (e43.trans (e32.trans (V2_arg m d b hb)))))

/-! ## The list of row numbers -/

/-- The tokens as the index pipeline's hundred rows. -/
def toks (x : IVec S4096x200 32) : IVec S100x8192 32 :=
  shapeCast S100x8192 (shapeCast S819200 x shapeCasts_S4096x200_S819200) shapeCasts_S819200_S100x8192

/-- The index pipeline's one block is its whole array. -/
theorem idx1 : ∀ t : Fin cfg1.N, win1_0.index t = ![0, 0] := (by decide +kernel : ∀ t : Fin grid1.N, _)

/-- What the index pipeline reads: the tokens as a hundred rows. -/
theorem V3_v7 (d : Dev nD) : V3 m d (Proc.devRef .tc main_v7) = toks (m ((SparseCore.T d).loc main_arg0)) := by
  unfold V3 ops2
  after_results
  rw [V2_arg0]
  rfl

/-- The list the gather reads. -/
theorem lst_eq (d : Dev nD) :
    lstM m d = shapeCast S819200 (k1_pay1 (F := F) (toks (m ((SparseCore.T d).loc main_arg0)))) shapeCasts_S100x8192_S819200 := by
  have e : V4 m d (Proc.devRef .tc main_v8) = k1_pay1 (F := F) (toks (m ((SparseCore.T d).loc main_arg0))) := by
    refine (leave_arr 1 launch1.to₀ d (V3 m d) (aft1 d (V3 m d)) 1).trans ?_
    refine Dat.arrAt_eq_of_after_last (datOf 1 d (V3 m d) (aft1 d (V3 m d))) 1 t1_0 (by decide +kernel) _ fun j => ?_
    blk_simp [aft1]
    have hb : ((cfg1.win 0).blk t1_0).view.read (Elt F) (V3 m d (Proc.devRef .tc (Pipeline.arrRef spec1 0)))
        = toks (m ((SparseCore.T d).loc main_arg0)) := by
      rw [← V3_v7]
      funext y
      blk_ext! [idx1 t1_0]
    exact congrFun (congrArg (k1_pay1 (F := F)) hb) j
  unfold lstM V5 ops3
  after_results
  rw [e]
  rfl

/-- Every row number lies in the packed table. -/
theorem lst_pre (hx : ∀ d (i : S4096x200.Idx), ((m ((SparseCore.T d).loc main_arg0) : IVec S4096x200 32) i).toNat < 1000000) : PreOK (lstM m) := by
  intro d x
  rw [lst_eq]
  exact (word_pos _ (hx d _) .vector).trans_lt (pos_lt (hx d _))

end Cert.Proof.K

end
-- ==== Proof.Main.lean ====
/-
  The whole program's run: the launch's ghost state, @main through its stretches, its two pipelines and the gather, and
  what memory holds at the end.
-/
module

public import proofs.«01_k».proof.Proof.Host

@[expose] public section

set_option maxRecDepth 16384

noncomputable section

namespace Cert.Proof.K

open Cert.KernelIdeal Cert.KernelIdeal.Gen

open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig (HIx 1) (Elt F) ℕ UU ℕ

/-! ## A pipeline's step in @main -/

set_option backward.isDefEq.respectTransparency.types false in
/-- Either pipeline called from @main: every buffer at `V` before, at `leave` after, the launch's debts kept. -/
theorem region_step [∀ e, Nonempty (Elt F e)] (V : Fin 2 → Dev nD → Valuation τ sig (Elt F))
    (aft : (p : Fin 2) → Dev nD → (w : Fin (cfgs p).W) → Fin (cfgs p).N → ((cfgs p).win w).block.Idx → Elt F ((cfgs p).win w).elt)
    (p : Fin 2) (kit : Pipeline.LaunchFacts₀ (nD := nD) (τ := τ) cfgs p)
    (hbody : ∀ c, Pipeline.BodyObligationLoose (datOf p c (V p c) (aft p c)) (defs₀ (F := F)) 𝒱₀ none Set.univ)
    (d : Dev nD) (Φ : PUnit → sProp 𝕄) :
    iprop(((boundary (SparseCore.T d) ∗ StableHlo.held (SparseCore.T d) (Pipeline.ucRefs τ sig) (leave p d (V p d) (aft p d)) ∗ owesT (F := F) d) -∗ Φ ⟨⟩)
        ∗ boundary (SparseCore.T d) ∗ StableHlo.held (SparseCore.T d) (Pipeline.ucRefs τ sig) (V p d) ∗ owesT (F := F) d
        ∗ levAts (K (F := F)).L (K (F := F)).lev ∗ Pipeline.cellsGhost cfgs EP p d ∗ Pipeline.toksInit cfgs EP p d)
      ⊢ wp frame (wpE ((K (F := F)).defs (D (F := F))) 𝒱 (SparseCore.T d) none) Set.univ
          (SparseCore.liftProg (.op (.customCall (Pipeline.entry p) ()) .ret)) Φ := by
  refine BIBase.Entails.trans ?_ ((K (F := F)).wp_liftProg (D (F := F)) 𝒱 (SparseCore.T d) Set.univ none _ Φ)
  refine BIBase.Entails.trans ?_ (Pipeline.RegionSeg.wp (pcfgs (F := F)) adm (pdats V aft) none cellOf_inj EP defs₀ 𝒱₀ (K (F := F)).L (K (F := F)).lev
    (seg V aft p kit hbody) d none (fun u hu => nomatch hu) .ret Φ)
  rw [show (seg V aft p kit hbody).pre d = iprop(StableHlo.held (SparseCore.T d) (Pipeline.ucRefs τ sig) (V p d) ∗ owesT (F := F) d) from rfl,
    show (seg V aft p kit hbody).post d = iprop(StableHlo.held (SparseCore.T d) (Pipeline.ucRefs τ sig) (leave p d (V p d) (aft p d)) ∗ owesT (F := F) d) from rfl]
  iintro ⟨Hk, Hb, HV, HO, Hl, Hc, Ht⟩
  isplitl [Hk]
  · iintro ⟨Hb, HV, HO⟩
    rw [wp_ret]
    imodintro
    iapply Hk
    isplitl [Hb]; · iexact Hb
    isplitl [HV]; · iexact HV
    iexact HO
  isplitl [Hb]; · iexact Hb
  isplitl [HV HO]
  · isplitl [HV]; · iexact HV
    iexact HO
  isplitl [Hl]; · iexact Hl
  isplitl [Hc]; · iexact Hc
  iexact Ht

/-! ## The launch's ghost state -/

/-- The launch element: the handshakes' rounds, the pipelines' rounds, no counters. -/
def u₀ : UU := (initOf (K (F := F)).hsCells (K (F := F)).hsToks,
  (initOf (Pipeline.cells (nD := nD) (τ := τ) cfgs cellOf_inj) (Pipeline.launchToks (nD := nD) (τ := τ) cfgs cellOf_inj), 1))

/-- What a device's TensorCore is dealt: both pipelines' cells and tokens. -/
abbrev G (d : Dev nD) : sProp 𝕄 :=
  iprop((bigSep Finset.univ fun p : Fin 2 => Pipeline.cellsGhost cfgs EP p d) ∗ bigSep Finset.univ fun p : Fin 2 => Pipeline.toksInit cfgs EP p d)

/-- It funds the handshakes, what each TensorCore is dealt and what each thread starts from. -/
theorem hu₀ (tab : (d : Dev nD) → Buf (Elt F) (tLoc d)) (lst : (d : Dev nD) → Buf (Elt F) (lLoc d)) (out : (d : Dev nD) → Buf (Elt F) (oLoc d)) :
    (ownU (u₀ (F := F)) : sProp 𝕄)
    ⊢ |={Set.univ}=> iprop(BI.own (EH (initOf (K (F := F)).hsCells (K (F := F)).hsToks)) ∗ (bigSep Finset.univ fun d : Dev nD => G d)
        ∗ bigSep Finset.univ fun thr : Thread nD τ => bigSep Finset.univ fun q : Fin 1 => (P tab lst out).x q thr) := by
  unfold u₀
  iintro Hu
  ihave H := (ownU_pair (initOf (K (F := F)).hsCells (K (F := F)).hsToks)
    ((initOf (Pipeline.cells (nD := nD) (τ := τ) cfgs cellOf_inj) (Pipeline.launchToks (nD := nD) (τ := τ) cfgs cellOf_inj), (1 : Counters)))) $$ Hu
  icases H with ⟨HH, HR⟩
  ihave H := (own_pair_emb (embR : Emb (UP × Counters) 𝕄) _ _) $$ HR
  icases H with ⟨HP, -⟩
  ihave HP := (show (BI.own (((Emb.inl : Emb UP (UP × Counters)).trans embR) (initOf (Pipeline.cells (nD := nD) (τ := τ) cfgs cellOf_inj) (Pipeline.launchToks (nD := nD) (τ := τ) cfgs cellOf_inj))) : sProp 𝕄)
    ⊢ BI.own (EP (F := F) (initOf (Pipeline.cells (nD := nD) (τ := τ) cfgs cellOf_inj) (Pipeline.launchToks (nD := nD) (τ := τ) cfgs cellOf_inj))) from .rfl) $$ HP
  ihave H := (Pipeline.fund_ghost (nD := nD) (τ := τ) cfgs (EP (F := F)) cellOf_inj) $$ HP
  imod H with ⟨Hc, Ht⟩
  imodintro
  isplitl [HH]; · iexact HH
  isplitl [Hc Ht]
  · rw [bigSep_sep']
    isplitl [Hc]; · iexact Hc
    iexact Ht
  rw [show (bigSep Finset.univ fun thr : Thread nD τ => bigSep Finset.univ fun q : Fin 1 => (P tab lst out).x q thr) = bigSep Finset.univ fun _ => iprop(emp) from
    bigSep_congr fun _ _ => bigSep_univ_of_subsingleton (0 : Fin 1), show (bigSep Finset.univ fun _ : Thread nD τ => iprop(emp)) = (iprop(emp) : sProp 𝕄) from bigSep_emp_const _]
  iempintro

/-! ## @main on the TensorCore -/

variable (m : (ℓ : Loc nD τ sig) → Buf (Elt F) ℓ) (ρ : Dev nD → PrngReg)

/-- What @main keeps for the end: every device buffer at its final contents. -/
abbrev FIN (d : Dev nD) : sProp 𝕄 := StableHlo.held (SparseCore.T d) (Pipeline.ucRefs τ sig) (V7 m d)

/-- The table pipeline's body obligation at the entry valuation, -/
theorem body0 (c : Dev nD) : Pipeline.BodyObligationLoose (datOf 0 c (VV m 0 c) (AA m 0 c)) (defs₀ (F := F)) 𝒱₀ none Set.univ :=
  (table_obl c (V1 m c)).loose
/-- and the index pipeline's. -/
theorem body1 (c : Dev nD) : Pipeline.BodyObligationLoose (datOf 1 c (VV m 1 c) (AA m 1 c)) (defs₀ (F := F)) 𝒱₀ none Set.univ :=
  (idx_obl c (V3 m c)).loose

/-- What the call is given, -/
theorem st_eq (d : Dev nD) : (bigSep Finset.univ fun c : Fin ((K (F := F)).nCore 0) => (P (tabM m) (lstM m) (outM m)).st 0 d c)
    = bigSep Finset.univ fun c : Fin 2 => coreRes (tabM m) (lstM m) d c (outM m d) := rfl
/-- and what it gives back, by SparseCore. -/
theorem dn_eq (d : Dev nD) : (bigSep Finset.univ fun c : Fin ((K (F := F)).nCore 0) => (P (tabM m) (lstM m) (outM m)).dn 0 d c)
    = bigSep Finset.univ fun c : Fin 2 => coreRes (tabM m) (lstM m) d c (OUT (tabM m) (lstM m) d) := rfl

set_option maxHeartbeats 1000000 in
/-- @main on device `d`'s TensorCore. -/
theorem hmain [∀ e, Nonempty (Elt F e)] (κ : GSem nD τ sig → ℕ) (d : Dev nD) :
    iprop((K (F := F)).ctx EH (P (tabM m) (lstM m) (outM m)) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [main_eq, show (unscopedBufs d (fun b => m ((SparseCore.T d).loc b)) : sProp 𝕄)
      = StableHlo.held (SparseCore.T d) (Pipeline.ucRefs τ sig) (StableHlo.launchContents m d) from
    Pipeline.unscopedBufs_held (Ix := HIx 1) (Name := ℕ) (U := UU) (Lvl := ℕ) d (StableHlo.launchContents m d)]
  iintro ⟨#Hctx, Hst, ⟨Hb, HV, Hts, -⟩, ⟨Hgc, Hgt⟩⟩
  ihave #Hlev := (SparseCore.Cfg.ctx_levAts κ) $$ Hctx
  ihave Hgc := (Entails.of_eq (show (bigSep Finset.univ fun p : Fin 2 => (Pipeline.cellsGhost cfgs (EP (F := F)) p d : sProp 𝕄))
    = iprop(Pipeline.cellsGhost cfgs EP 0 d ∗ Pipeline.cellsGhost cfgs EP 1 d) from bigSep_fin_two _)) $$ Hgc
  ihave Hgt := (Entails.of_eq (show (bigSep Finset.univ fun p : Fin 2 => (Pipeline.toksInit cfgs (EP (F := F)) p d : sProp 𝕄))
    = iprop(Pipeline.toksInit cfgs EP 0 d ∗ Pipeline.toksInit cfgs EP 1 d) from bigSep_fin_two _)) $$ Hgt
  icases Hgc with ⟨Hc0, Hc1⟩
  icases Hgt with ⟨Ht0, Ht1⟩
  -- the first stretch
  iapply (StableHlo.wp_seq 𝒱 none Set.univ d (Pipeline.ucRefs τ sig) _ ops1 ops1_bufs ops1_fresh (StableHlo.launchContents m d)) $$ [Hb HV]
  · isplitl [Hb]; · iexact Hb
    iexact HV
  iintro ⟨Hb, HV⟩
  -- the table pipeline
  rw [wp_bind]
  unfold SparseCore.Cfg.tcSt
  icases Hst with ⟨HO, Hst⟩
  iapply (region_step (VV m) (AA m) 0 launch₀0 (body0 m) d _)
  isplitr [Hb HV HO Hc0 Ht0]
  rotate_left
  · isplitl [Hb]; · iexact Hb
    isplitl [HV]; · iexact HV
    isplitl [HO]; · iexact HO
    isplitr; · iexact Hlev
    isplitl [Hc0]; · iexact Hc0
    iexact Ht0
  iintro ⟨Hb, HV, HO⟩
  -- the second stretch
  iapply (StableHlo.wp_seq 𝒱 none Set.univ d (Pipeline.ucRefs τ sig) _ ops2 ops2_bufs ops2_fresh (V2 m d)) $$ [Hb HV]
  · isplitl [Hb]; · iexact Hb
    iexact HV
  iintro ⟨Hb, HV⟩
  -- the index pipeline
  rw [wp_bind]
  iapply (region_step (VV m) (AA m) 1 launch1.to₀ (body1 m) d _)
  isplitr [Hb HV HO Hc1 Ht1]
  rotate_left
  · isplitl [Hb]; · iexact Hb
    isplitl [HV]; · iexact HV
    isplitl [HO]; · iexact HO
    isplitr; · iexact Hlev
    isplitl [Hc1]; · iexact Hc1
    iexact Ht1
  iintro ⟨Hb, HV, HO⟩
  -- the third stretch
  iapply (StableHlo.wp_seq 𝒱 none Set.univ d (Pipeline.ucRefs τ sig) _ ops3 ops3_bufs ops3_fresh (V4 m d)) $$ [Hb HV]
  · isplitl [Hb]; · iexact Hb
    iexact HV
  iintro ⟨Hb, HV⟩
  -- the gather
  rw [wp_bind]
  ihave HV := (Entails.of_eq (show (StableHlo.held (d.tc : Thread nD τ) (Pipeline.ucRefs τ sig) (StableHlo.after ops3 (V4 m d)) : sProp 𝕄) = _ from held_call m d)) $$ HV
  icases HV with ⟨Hops, Hrest⟩
  iapply ((K (F := F)).wp_run (D (F := F)) 𝒱 (EH := EH) (P := P (tabM m) (lstM m) (outM m)) κ d 0)
  isplitr; · iexact Hctx
  isplitl [HO Hst]
  · unfold SparseCore.Cfg.tcSt
    isplitl [HO]; · iexact HO
    iexact Hst
  isplitl [Hops]; · rw [st_eq]; iexact Hops
  iintro ⟨Hst, Hdn⟩
  ihave Hdn := (Entails.of_eq (dn_eq m d)) $$ Hdn
  ihave HV := (Entails.of_eq (held_ret m d).symm) $$ [Hdn Hrest]
  · isplitl [Hdn]; · iexact Hdn
    iexact Hrest
  -- the last stretch
  iapply (StableHlo.wp_seq 𝒱 none Set.univ d (Pipeline.ucRefs τ sig) _ ops4 ops4_bufs ops4_fresh (V6 m d)) $$ [Hb HV]
  · isplitl [Hb]; · iexact Hb
    iexact HV
  iintro ⟨Hb, HV⟩
  rw [wp_pure]
  imodintro
  isplitl [Hst]; · unfold SparseCore.Cfg.tcSt; iexact Hst
  isplitl [HV]; · iexact HV
  isplitl [Hb]; · iexact Hb
  iexact Hts

/-! ## The end -/

/-- What a final state holds on device `d`: every device buffer at its final contents. -/
def fq (d : Dev nD) (s' : Phys nD τ sig (Elt F)) : Prop :=
  ∀ b ∈ (Finset.univ.filter fun b : Ref sig .tc => ¬ b.isScoped), s'.mem.mem ((SparseCore.T d).loc b) = V7 m d (Proc.devRef .tc b)

/-- What is held at the end fixes the final memory. -/
theorem hfin (d : Dev nD) (s' : Phys nD τ sig (Elt F)) : iprop(FIN m d ∗ SI s') ⊢ (⌜fq m d s'⌝ : sProp 𝕄) := by
  rw [show (FIN m d : sProp 𝕄) = unscopedBufs d (fun b => V7 m d (Proc.devRef .tc b)) from
    (Pipeline.unscopedBufs_held (Ix := HIx 1) (Name := ℕ) (U := UU) (Lvl := ℕ) d (V7 m d)).symm]
  unfold unscopedBufs
  refine (pointsTo_read_all (Finset.univ.filter fun b : Ref sig .tc => ¬ b.isScoped) (fun b => (SparseCore.T d).loc b)
    (fun b => V7 m d (Proc.devRef .tc b)) s').trans ?_
  iintro ⟨%h, -⟩
  ipureintro; exact h

/-- What the program's run ends with: every device buffer of every TensorCore at its final contents, every counter zero. -/
def QC : PUnit × MemSt nD τ sig (Elt F) → Prop := fun r =>
  (∀ (d : Dev nD) (b : Ref sig .tc), ¬ b.isScoped → r.2.mem ((SparseCore.T d).loc b) = V7 m d (Proc.devRef .tc b)) ∧ r.2.sem = fun _ => 0

/-- The program runs, from any memory whose row numbers are in range. -/
theorem run_main [∀ e, Nonempty (Elt F e)] (hpre : PreOK (lstM m)) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (tabM m) (lstM m) (outM m)) (A := ∅) facts v₀
    (fun q hq => match q with | 0 => nomatch hq)
    (fun q _ => match q with | 0 => tileObl (tabM m) (lstM m) (outM m) hpre)
    (fun q _ => match q with | 0 => SparseCore.Cfg.VecSplit.of_plain (vecSplit (tabM m) (lstM m) (outM m)))
    m ρ main (fun d => G d) (FIN m) (u₀ (F := F)) (sep_elim_left.trans (hu₀ (tabM m) (lstM m) (outM m))) (hmain m ρ) (fq m) (hfin m) (QC m)
    (fun _ h hz => ⟨fun d b hb => h d b (Finset.mem_filter.mpr ⟨Finset.mem_univ _, hb⟩), hz⟩)

end Cert.Proof.K

end
-- ==== Proof.Same.lean ====
/-
  The kernel as printed and as read at the extended reals are one program: the same bodies under the same labels.
-/
module

public import proofs.«01_k».proof.Proof.Gen.Kernel
public import proofs.«01_k».proof.Proof.Gen.KernelIdeal

@[expose] public section

set_option maxRecDepth 65536

namespace Cert.Proof.K

open Idealize.ShloMosaic Idealize.ShloMosaic.TcCoe
open Idealize.SL.Sem

variable {F : FTy → Type} [FloatOps F]

set_option maxHeartbeats 8000000 in
/-- The two body tables, label by label. -/
theorem same_defs₀ : Cert.Kernel.defs₀ (F := F) = Cert.KernelIdeal.defs₀ (F := F) := by
  funext p ℓ a
  match p, ℓ, a with
  | .tc, ⟨0, _⟩, (t, s) => rfl
  | .tc, ⟨1, _⟩, (t, s) => rfl
  | .tc, ⟨2, _⟩, a => rfl
  | .scVector c s, ⟨0, _⟩, a => rfl
  | .scVector c s, ⟨1, _⟩, a => rfl
  | .scVector c s, ⟨2, _⟩, a => rfl
  | .scScalar c, ⟨0, _⟩, a => rfl
  | .scScalar c, ⟨1, _⟩, a => rfl
  | .scScalar c, ⟨2, _⟩, a => rfl

/-- The two tables with the calls around them. -/
theorem same_defs : Cert.Kernel.defs (F := F) = Cert.KernelIdeal.defs (F := F) := by
  unfold Cert.Kernel.defs Cert.KernelIdeal.defs
  rw [same_defs₀]
  rfl
end Cert.Proof.K
end
-- ==== Proof.Frames.lean ====
/-
  The frames: each program runs to its end from any contents, keeps its arguments and leaves every counter at zero.
-/
module

public import proofs.«01_k».proof.Defs
public import proofs.«01_k».proof.Proof.Args
public import proofs.«01_k».proof.Proof.Main
public import proofs.«01_k».proof.Proof.Same
public import proofs.«01_k».proof.Proof.Gen.Kernel
public import proofs.«01_k».proof.Proof.Gen.KernelIdeal
public import proofs.«01_k».proof.Proof.Gen.ReferenceIdeal
public import proofs.«01_k».proof.Proof.Gen.ReferenceIdeal.Run

@[expose] public section

set_option maxRecDepth 16384

noncomputable section

namespace Cert.Proof.K

open Idealize.ShloMosaic Idealize.ShloMosaic.TcCoe
open Idealize.SL.Sem

section
open Cert.KernelIdeal Cert.KernelIdeal.Gen

variable {F : FTy → Type} [FloatOps F]

/-- The arguments as they were and every counter at zero, of a state the run ends in. -/
def Quiet (m : (ℓ : Loc nD τ sig) → Buf (Elt F) ℓ) (r : PUnit × MemSt nD τ sig (Elt F)) : Prop :=
  (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
    ∧ r.2.sem = fun _ => 0

/-- The arguments at the run's end. -/
theorem QC_args (m : (ℓ : Loc nD τ sig) → Buf (Elt F) ℓ) (r : PUnit × MemSt nD τ sig (Elt F)) (h : QC m r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨(h.1 c main_arg0 (by decide)).trans (V7_arg m c _ (.inl rfl)),
    (h.1 c main_arg1 (by decide)).trans (V7_arg m c _ (.inr (.inl rfl))),
    (h.1 c main_arg2 (by decide)).trans (V7_arg m c _ (.inr (.inr (.inl rfl)))),
    (h.1 c main_arg3 (by decide)).trans (V7_arg m c _ (.inr (.inr (.inr (.inl rfl))))),
    (h.1 c main_arg4 (by decide)).trans (V7_arg m c _ (.inr (.inr (.inr (.inr (.inl rfl)))))),
    (h.1 c main_arg5 (by decide)).trans (V7_arg m c _ (.inr (.inr (.inr (.inr (.inr rfl))))))⟩

/-- The run, its arguments kept. -/
theorem run_quiet [∀ e, Nonempty (Elt F e)] (m : (ℓ : Loc nD τ sig) → Buf (Elt F) ℓ) (ρ : Dev nD → PrngReg) (h : PreOK (lstM m)) :
    θ_run (Cert.KernelIdeal.defs (F := F)) (Cert.KernelIdeal.threads (F := F)) ⟨m, fun _ => 0, ρ⟩ (Quiet m) :=
  (θ_run (Cert.KernelIdeal.defs (F := F)) _ _).mono (fun r q => ⟨QC_args m r q, q.2⟩) (run_main m ρ h)

end

/-- Under the precondition on the kernel's tokens, the list it gathers by is in range: as printed, -/
theorem pre_bits (m : (ℓ : Loc Cert.Kernel.nD Cert.Kernel.τ Cert.Kernel.sig) → Buf (Elt Bits) ℓ) (h : Cert.Pre_Kernel m) :
    PreOK (lstM (F := Bits) m) :=
  lst_pre (F := Bits) m fun d i => tok_lt (F := Bits) _ _ _ _ _ _ (h d) i

/-- and at the extended reals. -/
theorem pre_ideal (m : (ℓ : Loc Cert.KernelIdeal.nD Cert.KernelIdeal.τ Cert.KernelIdeal.sig) → Buf (Elt Ideal) ℓ) (h : Cert.Pre_KernelIdeal m) :
    PreOK (lstM (F := Ideal) m) :=
  lst_pre (F := Ideal) m fun d i => tok_lt (F := Ideal) _ _ _ _ _ _ (h d) i

/-- The kernel as printed runs, keeps its arguments and leaves every counter at zero. -/
theorem frame_kernel : Cert.quiescent_Kernel := fun m g h => by
  have q := run_quiet (F := Bits) m g (pre_bits m h)
  rw [← same_defs] at q
  exact q

/-- So does the kernel read at the extended reals, -/
theorem frame_ideal : Cert.quiescent_KernelIdeal := fun m g h => run_quiet (F := Ideal) m g (pre_ideal m h)

/-- and the reference, -/
theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run m g)

/-- under the precondition too. -/
theorem frame_reference_pre : Cert.quiescent_ReferenceIdeal_pre_tokens_in_vocab := fun m g _ => frame_reference m g trivial

end Cert.Proof.K

end
-- ==== Proof.Mlp.lean ====
/-
  What the table pipeline's body computes, over the extended reals: on every row of a block the two-layer perceptron, and
  the eight blocks' outputs side by side.
-/
module

public import proofs.«01_k».proof.Proof.TableBody
public import Idealize.ShloMosaic.Lib.Pointwise

@[expose] public section

set_option maxRecDepth 16384

noncomputable section

namespace Cert.Proof.K

open Cert.KernelIdeal Cert.KernelIdeal.Gen

open Idealize.ShloMosaic Idealize.ShloMosaic.TcCoe

/-- The perceptron's hidden layer on a row `e`, at a unit. -/
def hid (w1 : Fin 128 → Fin 100 → EReal) (b1 : Fin 100 → EReal) (e : Fin 128 → EReal) (k : Fin 100) : EReal :=
  max ((∑ l : Fin 128, e l * w1 l k) + b1 k) 0

/-- The perceptron on a row `e`: one output, from that output's weights and bias. -/
def mlp (w1 : Fin 128 → Fin 100 → EReal) (b1 : Fin 100 → EReal) (w2 : Fin 100 → EReal) (b2 : EReal) (e : Fin 128 → EReal) : EReal :=
  (∑ k : Fin 100, hid w1 b1 e k * w2 k) + b2

/-- A block's output at a row and a column. -/
theorem blockOut_at (w1 : FVec Ideal S128x100 .f32) (b1 : FVec Ideal S1x100 .f32) (w2 : FVec Ideal S100x16 .f32)
    (b2 : FVec Ideal S1x16 .f32) (x : FVec Ideal S1000x128 .f32) (r : Fin 1000) (c : Fin 16) :
    blockOut (F := Ideal) w1 b1 w2 b2 x (ix2 r c)
      = mlp (fun l k => w1 (ix2 l k)) (fun k => b1 (ix2 0 k)) (fun k => w2 (ix2 k c)) (b2 (ix2 0 c)) fun l => x (ix2 r l) := by
  pointwise [blockOut, k0_pay5, k0_pay2, k0_pay3, k0_pay4, mlp, hid]

/-- Eight blocks side by side, read at a column of the `q`-th. -/
theorem cat8_at (y : Fin 8 → FVec Ideal S1000x16 .f32) (r : Fin 1000) (q : Fin 8) (k : Fin 16) (c : Fin 128) (hc : (c : ℕ) = q * 16 + k) :
    concatenate S1000x128 1 [⟨S1000x16, y 0⟩, ⟨S1000x16, y 1⟩, ⟨S1000x16, y 2⟩, ⟨S1000x16, y 3⟩, ⟨S1000x16, y 4⟩, ⟨S1000x16, y 5⟩,
      ⟨S1000x16, y 6⟩, ⟨S1000x16, y 7⟩]
      concatenates_S1000x16_S1000x16_S1000x16_S1000x16_S1000x16_S1000x16_S1000x16_S1000x16_S1000x128_d1 (ix2 r c)
      = y q (ix2 r k) := by
  pointwise
  have hk := k.isLt
  match q, hc with
  | ⟨0, _⟩, hc | ⟨1, _⟩, hc | ⟨2, _⟩, hc | ⟨3, _⟩, hc | ⟨4, _⟩, hc | ⟨5, _⟩, hc | ⟨6, _⟩, hc | ⟨7, _⟩, hc =>
    dsimp only at hc
    repeat rw [dif_neg (by omega)]
    try rw [dif_pos (by omega)]
    refine congrArg (y _) (congrArg (ix2 r) (Fin.ext ?_))
    dsimp only
    omega

/-- The eight blocks' outputs side by side. -/
theorem tableOut_at (w1 : FVec Ideal S128x100 .f32) (b1 : FVec Ideal S1x100 .f32) (w2 : FVec Ideal S100x16 .f32)
    (b2 : FVec Ideal S1x16 .f32) (x : Fin 8 → FVec Ideal S1000x128 .f32) (r : Fin 1000) (q : Fin 8) (k : Fin 16) (c : Fin 128)
    (hc : (c : ℕ) = q * 16 + k) :
    tableOut (F := Ideal) w1 b1 w2 b2 (x 0) (x 1) (x 2) (x 3) (x 4) (x 5) (x 6) (x 7) (ix2 r c)
      = mlp (fun l k => w1 (ix2 l k)) (fun k => b1 (ix2 0 k)) (fun h => w2 (ix2 h k)) (b2 (ix2 0 k)) fun l => x q (ix2 r l) :=
  (cat8_at (fun q => blockOut (F := Ideal) w1 b1 w2 b2 (x q)) r q k c hc).trans (blockOut_at w1 b1 w2 b2 (x q) r k)

end Cert.Proof.K

end
-- ==== Proof.Table.lean ====
/-
  What the table pipeline leaves, over the extended reals: entry by entry, the perceptron on a row of the embedding table.
-/
module

public import proofs.«01_k».proof.Proof.Mlp
public import proofs.«01_k».proof.Proof.Args

@[expose] public section

set_option maxRecDepth 16384

noncomputable section

namespace Cert.Proof.K

open Cert.KernelIdeal Cert.KernelIdeal.Gen

open Idealize.ShloMosaic Idealize.ShloMosaic.TcCoe
open Idealize.ShloMosaic.Pipeline (Dat)

/-- Which block each window holds at a point: the eight blocks of embedding rows, the whole of each weight and bias, and
    the result's block. -/
theorem idx0 : ∀ t : Fin cfg0.N,
    win0_0.index t = ![t.val, 0] ∧ win0_1.index t = ![125 + t.val, 0] ∧ win0_2.index t = ![250 + t.val, 0]
    ∧ win0_3.index t = ![375 + t.val, 0] ∧ win0_4.index t = ![500 + t.val, 0] ∧ win0_5.index t = ![625 + t.val, 0]
    ∧ win0_6.index t = ![750 + t.val, 0] ∧ win0_7.index t = ![875 + t.val, 0] ∧ win0_8.index t = ![0, 0]
    ∧ win0_9.index t = ![0, 0] ∧ win0_10.index t = ![0, 0] ∧ win0_11.index t = ![0, 0] ∧ win0_12.index t = ![t.val, 0] :=
  (by decide +kernel : ∀ t : Fin grid0.N, _)

/-- The packed table's entry at a row and a column, from the pipeline's operands. -/
def packed (V : Valuation τ sig (Elt Ideal)) (p : Fin 125000) (c : Fin 128) : EReal :=
  mlp (fun l k => (V (Proc.devRef .tc main_arg2) : FVec Ideal S128x100 .f32) (ix2 l k))
    (fun k => (V (Proc.devRef .tc main_v3) : FVec Ideal S1x100 .f32) (ix2 0 k))
    (fun h => (V (Proc.devRef .tc main_v0) : FVec Ideal S100x16 .f32) (ix2 h ⟨c.val % 16, by omega⟩))
    ((V (Proc.devRef .tc main_v2) : FVec Ideal S1x16 .f32) (ix2 0 ⟨c.val % 16, by omega⟩))
    fun l => (V (Proc.devRef .tc main_arg1) : FVec Ideal S1000000x128 .f32) (ix2 ⟨c.val / 16 * 125000 + p.val, by omega⟩ l)

/-- The embedding blocks at a point, by window. -/
def eblk (V : Valuation τ sig (Elt Ideal)) (t : Fin cfg0.N) : Fin 8 → FVec Ideal S1000x128 .f32
  | 0 => blk0 V 0 t
  | 1 => blk0 V 1 t
  | 2 => blk0 V 2 t
  | 3 => blk0 V 3 t
  | 4 => blk0 V 4 t
  | 5 => blk0 V 5 t
  | 6 => blk0 V 6 t
  | 7 => blk0 V 7 t

/-- A block's row is a row of the embedding table. -/
theorem eblk_at (V : Valuation τ sig (Elt Ideal)) (t : Fin cfg0.N) (q : Fin 8) (r : Fin 1000) (l : Fin 128) (n : Fin 1000000)
    (hn : n.val = (q.val * 125 + t.val) * 1000 + r.val) :
    eblk V t q (ix2 r l) = (V (Proc.devRef .tc main_arg1) : FVec Ideal S1000000x128 .f32) (ix2 n l) := by
  match q, hn with
  | 0, hn => dsimp only [eblk]; blk_ext! [blk0, idx0 t]
  | 1, hn => dsimp only [eblk]; blk_ext! [blk0, idx0 t]
  | 2, hn => dsimp only [eblk]; blk_ext! [blk0, idx0 t]
  | 3, hn => dsimp only [eblk]; blk_ext! [blk0, idx0 t]
  | 4, hn => dsimp only [eblk]; blk_ext! [blk0, idx0 t]
  | 5, hn => dsimp only [eblk]; blk_ext! [blk0, idx0 t]
  | 6, hn => dsimp only [eblk]; blk_ext! [blk0, idx0 t]
  | 7, hn => dsimp only [eblk]; blk_ext! [blk0, idx0 t]

/-- The blocks of weights and biases are whole arrays. -/
theorem wblk (V : Valuation τ sig (Elt Ideal)) (t : Fin cfg0.N) :
    blk0 V 8 t = (V (Proc.devRef .tc main_arg2) : FVec Ideal S128x100 .f32) ∧ blk0 V 9 t = (V (Proc.devRef .tc main_v3) : FVec Ideal S1x100 .f32)
    ∧ blk0 V 10 t = (V (Proc.devRef .tc main_v0) : FVec Ideal S100x16 .f32) ∧ blk0 V 11 t = (V (Proc.devRef .tc main_v2) : FVec Ideal S1x16 .f32) := by
  refine ⟨?_, ?_, ?_, ?_⟩
  all_goals
    funext y
    blk_ext! [blk0, idx0 t]

/-- What the body stores at a point, entry by entry. -/
theorem out0_at (V : Valuation τ sig (Elt Ideal)) (t : Fin cfg0.N) (r : Fin 1000) (c : Fin 128) (p : Fin 125000) (hp : p.val = t.val * 1000 + r.val) :
    out0 V t (ix2 r c) = packed V p c := by
  obtain ⟨h8, h9, h10, h11⟩ := wblk V t
  refine (tableOut_at _ _ _ _ (eblk V t) r ⟨c.val / 16, by omega⟩ ⟨c.val % 16, by omega⟩ c (by dsimp only; omega)).trans ?_
  rw [h8, h9, h10, h11]
  refine congrArg (mlp _ _ _ _) (funext fun l => eblk_at V t _ r l _ ?_)
  dsimp only; omega

/-- The pipeline's result, entry by entry. -/
theorem table_at (d : Dev nD) (V : Valuation τ sig (Elt Ideal)) :
    leave 0 d V (aft0 d V) (Proc.devRef .tc main_v4) = (fun i => packed V (i 0) (i 1) : FVec Ideal S125000x128 .f32) := by
  refine (leave_arr 0 launch₀0 d V (aft0 d V) 12).trans ?_
  refine Dat.arrAt_eq_of_covers (datOf 0 d V (aft0 d V)) 12 _ (by decide +kernel) fun t _ y => ?_
  blk_simp
  have hw : ((cfgs 0).win 12).index t = ![t.val, 0] := (idx0 t).2.2.2.2.2.2.2.2.2.2.2.2
  have e0 : ((((cfgs 0).win 12).blk t).view.emb y 0).val = t.val * 1000 + (y 0).val := by
    blk_simp
    rw [hw]
    rfl
  have e1 : ((((cfgs 0).win 12).blk t).view.emb y 1).val = (y 1).val := by
    blk_simp
    rw [hw]
    exact Nat.zero_add _
  have h := out0_at V t (y 0) (y 1) ((((cfgs 0).win 12).blk t).view.emb y 0) e0
  refine Eq.trans (Eq.trans (congrArg (out0 V t) (eq_ix2 y)) h) ?_
  exact congrArg (packed V _) (Fin.ext e1.symm)

end Cert.Proof.K

end
-- ==== Proof.Result.lean ====
/-
  The result at the end, over the extended reals and tokens within the vocabulary: entry by entry, the perceptron on the
  token's row of the embedding table.
-/
module

public import proofs.«01_k».proof.Proof.Table

@[expose] public section

set_option maxRecDepth 16384

noncomputable section

namespace Cert.Proof.K

open Cert.KernelIdeal Cert.KernelIdeal.Gen

open Idealize.ShloMosaic Idealize.ShloMosaic.TcCoe
open Idealize.ShloMosaic.Pipeline (Dat)

/-! ## Movement -/

/-- The table as rows of sixteen: row `n` is the `n % 8`-th sixteen columns of row `n / 8`. -/
theorem unpack_at (x : FVec Ideal S125000x128 .f32) (n : Fin 1000000) (k : Fin 16) (p : Fin 125000) (c : Fin 128)
    (hp : p.val = n.val / 8) (hc : c.val = n.val % 8 * 16 + k.val) :
    shapeCast S1000000x16 x shapeCasts_S125000x128_S1000000x16 (ix2 n k) = x (ix2 p c) := by
  pointwise
  exact congrArg x (congrArg₂ ix2 (Fin.ext hp.symm) (Fin.ext hc.symm))

/-- A hundred rows as one list, -/
theorem list_row (z : IVec S100x8192 32) (i : Fin 819200) :
    shapeCast S819200 z shapeCasts_S100x8192_S819200 (ix1 i) = z (ix2 ⟨i.val / 8192, by omega⟩ ⟨i.val % 8192, by omega⟩) := by
  pointwise

/-- the list as a hundred rows, -/
theorem row_list (z : IVec S819200 32) (a : Fin 100) (c : Fin 8192) :
    shapeCast S100x8192 z shapeCasts_S819200_S100x8192 (ix2 a c) = z (ix1 ⟨a.val * 8192 + c.val, by omega⟩) := by
  pointwise

/-- and the tokens as one list. -/
theorem tok_list (z : IVec S4096x200 32) (i : Fin 819200) :
    shapeCast S819200 z shapeCasts_S4096x200_S819200 (ix1 i) = z (ix2 ⟨i.val / 200, by omega⟩ ⟨i.val % 200, by omega⟩) := by
  pointwise

/-- The index pipeline's rows at a place of the list. -/
theorem toks_at (x : IVec S4096x200 32) (b : Fin 4096) (s : Fin 200) (i : Fin 819200) (hi : i.val = b.val * 200 + s.val) :
    toks x (ix2 ⟨i.val / 8192, by omega⟩ ⟨i.val % 8192, by omega⟩) = x (ix2 b s) := by
  refine (row_list _ _ _).trans ((tok_list x _).trans (congrArg x (congrArg₂ ix2 (Fin.ext ?_) (Fin.ext ?_))))
  all_goals
    dsimp only
    omega

/-- The index pipeline's word of a token. -/
theorem word_at (y : IVec S100x8192 32) (a : Fin 100) (c : Fin 8192) (h : (y (ix2 a c)).toNat < 1000000) :
    (k1_pay1 (F := Ideal) y (ix2 a c)).toNat = pos (y (ix2 a c)).toNat := by
  refine Eq.trans (congrArg BitVec.toNat ?_) (word_pos _ h .vector)
  pointwise [k1_pay1]

/-- The list of row numbers at a token. -/
theorem list_at (x : IVec S4096x200 32) (b : Fin 4096) (s : Fin 200) (i : Fin 819200) (hi : i.val = b.val * 200 + s.val)
    (hx : (x (ix2 b s)).toNat < 1000000) :
    (shapeCast S819200 (k1_pay1 (F := Ideal) (toks x)) shapeCasts_S100x8192_S819200 (ix1 i)).toNat = pos (x (ix2 b s)).toNat := by
  rw [list_row]
  have e := toks_at x b s i hi
  rw [← e] at hx ⊢
  exact word_at _ _ _ hx

/-- The second layer's weights padded to sixteen columns keep their first nine. -/
theorem padw_at (x : FVec Ideal S100x9 .f32) (v : FVec Ideal S_ .f32) (h : Fin 100) (k : Fin 9) (k' : Fin 16) (hk : k'.val = k.val) :
    pad S100x16 ![0, 0] ![0, 7] ![0, 0] x v pads_S100x9_S100x16_000_070 h_S_ (ix2 h k') = x (ix2 h k) := by
  have hk9 := k.isLt
  pointwise
  rw [dif_pos (by omega)]
  exact congrArg (fun c => x (ix2 h c)) (Fin.ext hk)

/-- Its bias padded, and as a row, too. -/
theorem padb_at (x : FVec Ideal S9 .f32) (v : FVec Ideal S_ .f32) (k : Fin 9) (k' : Fin 16) (hk : k'.val = k.val) :
    shapeCast S1x16 (pad S16 ![0] ![7] ![0] x v pads_S9_S16_070 h_S_) shapeCasts_S16_S1x16 (ix2 0 k') = x (ix1 k) := by
  have hk9 := k.isLt
  pointwise
  rw [dif_pos (by omega)]
  exact congrArg (fun c => x (ix1 c)) (Fin.ext hk)

/-- The first layer's bias as a row. -/
theorem row_at (x : FVec Ideal S100 .f32) (k : Fin 100) : shapeCast S1x100 x shapeCasts_S100_S1x100 (ix2 0 k) = x (ix1 k) := by
  pointwise

/-- The first nine columns in the tokens' shape. -/
theorem cut_at (x : FVec Ideal S819200x16 .f32) (b : Fin 4096) (s : Fin 200) (k : Fin 9) (i : Fin 819200) (k' : Fin 16)
    (hi : i.val = b.val * 200 + s.val) (hk : k'.val = k.val) :
    shapeCast S4096x200x9 (extractStridedSlice S819200x9 ![0, 0] x slices_S819200x16_S819200x9_0_0) shapeCasts_S819200x9_S4096x200x9 (ix3 b s k)
      = x (ix2 i k') := by
  pointwise
  exact congrArg x (congrArg₂ ix2 (Fin.ext hi.symm) (Fin.ext hk.symm))

/-! ## The buffers -/

variable (m : (ℓ : Loc nD τ sig) → Buf (Elt Ideal) ℓ)

/-- The arguments at their shapes: the tokens, -/
abbrev xM (d : Dev nD) : IVec S4096x200 32 := m ((SparseCore.T d).loc main_arg0)
/-- the embedding table, -/
abbrev eM (d : Dev nD) : FVec Ideal S1000000x128 .f32 := m ((SparseCore.T d).loc main_arg1)
/-- the first layer's weights -/
abbrev w1M (d : Dev nD) : FVec Ideal S128x100 .f32 := m ((SparseCore.T d).loc main_arg2)
/-- and bias, -/
abbrev b1M (d : Dev nD) : FVec Ideal S100 .f32 := m ((SparseCore.T d).loc main_arg3)
/-- the second layer's weights -/
abbrev w2M (d : Dev nD) : FVec Ideal S100x9 .f32 := m ((SparseCore.T d).loc main_arg4)
/-- and bias. -/
abbrev b2M (d : Dev nD) : FVec Ideal S9 .f32 := m ((SparseCore.T d).loc main_arg5)

/-- The padded weights when the table pipeline is entered; -/
theorem V1_v0 (d : Dev nD) : ∃ v, V1 m d (Proc.devRef .tc main_v0)
    = pad S100x16 ![0, 0] ![0, 7] ![0, 0] (w2M m d) v pads_S100x9_S100x16_000_070 h_S_ := by
  unfold V1 ops1
  refine ⟨sitofp (F := Ideal) .f32 (constantI S_ 32 0#32), ?_⟩
  simp only [StableHlo.TRef.binary, StableHlo.TRef.nullary, StableHlo.TRef.unary, StableHlo.TRef.toBuf, StableHlo.TRef.ofBuf, cast_eq]
  after_results

/-- the padded bias; -/
theorem V1_v2 (d : Dev nD) : ∃ v, V1 m d (Proc.devRef .tc main_v2)
    = shapeCast S1x16 (pad S16 ![0] ![7] ![0] (b2M m d) v pads_S9_S16_070 h_S_) shapeCasts_S16_S1x16 := by
  unfold V1 ops1
  refine ⟨sitofp (F := Ideal) .f32 (constantI S_ 32 0#32), ?_⟩
  simp only [StableHlo.TRef.binary, StableHlo.TRef.nullary, StableHlo.TRef.unary, StableHlo.TRef.toBuf, StableHlo.TRef.ofBuf, cast_eq]
  after_results
  rfl

/-- the first layer's bias. -/
theorem V1_v3 (d : Dev nD) : V1 m d (Proc.devRef .tc main_v3) = shapeCast S1x100 (b1M m d) shapeCasts_S100_S1x100 := by
  unfold V1 ops1
  after_results
  rfl

/-- The gather's table is the pipeline's, as rows of sixteen. -/
theorem tab_eq (d : Dev nD) :
    tabM m d = shapeCast S1000000x16 (V2 m d (Proc.devRef .tc main_v4) : FVec Ideal S125000x128 .f32) shapeCasts_S125000x128_S1000000x16 := by
  have e5 : V5 m d (Proc.devRef .tc main_v5) = V4 m d (Proc.devRef .tc main_v5) := by
    unfold V5 ops3
    after_results
  have e4 : V4 m d (Proc.devRef .tc main_v5) = V3 m d (Proc.devRef .tc main_v5) :=
    leave_of_ne 1 d (V3 m d) (aft1 d (V3 m d)) _ (by decide)
  refine e5.trans (e4.trans ?_)
  unfold V3 ops2
  after_results
  rfl

/-- The result is the gather's, its first nine columns in the tokens' shape. -/
theorem res_eq (d : Dev nD) :
    V7 m d (Proc.devRef .tc main_v12)
      = shapeCast S4096x200x9 (extractStridedSlice S819200x9 ![0, 0] (OUT (tabM m) (lstM m) d : FVec Ideal S819200x16 .f32)
          slices_S819200x16_S819200x9_0_0) shapeCasts_S819200x9_S4096x200x9 := by
  have e : V6 m d (Proc.devRef .tc main_v10) = OUT (tabM m) (lstM m) d := Function.update_self _ _ _
  unfold V7 ops4
  after_results
  rw [e]
  rfl

/-- The table's row of a token, at one of the first nine columns: the perceptron on the token's embedding. -/
theorem tab_at (d : Dev nD) (v : Fin 1000000) (n : Fin 1000000) (k : Fin 9) (k' : Fin 16) (hn : n.val = pos v.val) (hk : k'.val = k.val) :
    (tabM m d : FVec Ideal S1000000x16 .f32) (ix2 n k')
      = mlp (fun l k => w1M m d (ix2 l k)) (fun k => b1M m d (ix1 k)) (fun h => w2M m d (ix2 h k)) (b2M m d (ix1 k)) fun l => eM m d (ix2 v l) := by
  have hv := v.isLt
  have hk9 := k.isLt
  unfold pos at hn
  obtain ⟨u, hu⟩ := V1_v0 m d
  obtain ⟨u', hu'⟩ := V1_v2 m d
  rw [tab_eq]
  refine (unpack_at _ n k' ⟨n.val / 8, by omega⟩ ⟨n.val % 8 * 16 + k'.val, by omega⟩ rfl rfl).trans ?_
  rw [show V2 m d (Proc.devRef .tc main_v4) = _ from table_at d (V1 m d)]
  show packed (V1 m d) ⟨n.val / 8, _⟩ ⟨n.val % 8 * 16 + k'.val, _⟩ = _
  unfold packed
  rw [V1_v3, hu, hu', V1_arg m d main_arg1 (by simp), V1_arg m d main_arg2 (by simp)]
  congr 1
  · funext j; exact row_at _ j
  · funext h; exact padw_at _ _ h k _ (by dsimp only; omega)
  · exact padb_at _ _ k _ (by dsimp only; omega)
  · funext l
    exact congrArg (fun r => eM m d (ix2 r l)) (Fin.ext (by dsimp only; omega))

/-- The result, entry by entry. -/
theorem res_at (d : Dev nD) (hx : ∀ i, (xM m d i).toNat < 1000000) (b : Fin 4096) (s : Fin 200) (k : Fin 9) :
    (V7 m d (Proc.devRef .tc main_v12) : FVec Ideal S4096x200x9 .f32) (ix3 b s k)
      = mlp (fun l k => w1M m d (ix2 l k)) (fun k => b1M m d (ix1 k)) (fun h => w2M m d (ix2 h k)) (b2M m d (ix1 k))
          fun l => eM m d (ix2 ⟨(xM m d (ix2 b s)).toNat, hx _⟩ l) := by
  have hb := b.isLt
  have hs := s.isLt
  have hk9 := k.isLt
  rw [res_eq]
  refine (cut_at _ b s k ⟨b.val * 200 + s.val, by omega⟩ ⟨k.val, by omega⟩ rfl rfl).trans ?_
  refine Eq.trans ?_ (tab_at m d _ ⟨pos (xM m d (ix2 b s)).toNat, pos_lt (hx _)⟩ k ⟨k.val, by omega⟩ rfl rfl)
  show gathered (tabM m d) (lstM m d) _ = _
  have hl := list_at (xM m d) b s ⟨b.val * 200 + s.val, by omega⟩ rfl (hx _)
  rw [← lst_eq m d] at hl
  refine congrArg (tabM m d) (funext fun a => ?_)
  match a with
  | 0 =>
    refine Fin.ext ?_
    show (lstM m d _).toNat % 1000000 = pos (xM m d (ix2 b s)).toNat
    have hp := pos_lt (hx (ix2 b s))
    refine Eq.trans (congrArg (· % 1000000) ((congrArg (fun j => (lstM m d j).toNat) ?_).trans hl)) (Nat.mod_eq_of_lt hp)
    exact funext fun a => match a with | 0 => rfl
  | 1 => rfl

end Cert.Proof.K

end
-- ==== Proof.Ref.lean ====
/-
  What the reference computes, over the extended reals, on tokens within the vocabulary: the perceptron on each token's row
  of the embedding table.
-/
module

public import proofs.«01_k».proof.Proof.Mlp
public import proofs.«01_k».proof.Proof.Gen.ReferenceIdeal.Run
public import Idealize.ShloMosaic.Lib.Pointwise
public import Idealize.ShloMosaic.Lib.ReduceAll
public import Idealize.ShloMosaic.Lib.WordCmp

@[expose] public section

set_option maxRecDepth 16384

noncomputable section

namespace Cert.Proof.K

open Cert.ReferenceIdeal Cert.ReferenceIdeal.Gen

open Idealize.ShloMosaic Idealize.ShloMosaic.TcCoe

/-! ## The rows the tokens name -/

/-- The tokens with a negative one counted from the table's end. -/
def wrapped (x : IVec S4096x200 32) : IVec S4096x200x1 32 :=
  broadcastInDim S4096x200x1 ![0, 1] bcast_S4096x200_S4096x200x1_0_1 (select (cmpi .slt x (broadcastInDim S4096x200 ![] bcast_S_S4096x200 (constantI S_ 32 0#32))) (addi x (broadcastInDim S4096x200 ![] bcast_S_S4096x200 (constantI S_ 32 1000000#32))) x)

/-- Whether each row number lies in the table. -/
def inside (i : IVec S4096x200x1 32) : IVec S4096x200 1 :=
  Host.reduce IntOp.andi (andi (cmpi .sge i (broadcastInDim S4096x200x1 ![] bcast_S_S4096x200x1 (constantI S_ 32 0#32))) (cmpi .sle i (broadcastInDim S4096x200x1 ![0, 1, 2] bcast_S1x1x1_S4096x200x1_0_1_2 (broadcastInDim S1x1x1 ![2] bcast_S1_S1x1x1_2 (constantI S1 32 999999#32))))) (constantI S_ 1 1#1) reducesTo_S4096x200x1_S4096x200_d2 h_S_

/-- The embedding rows of the tokens, not-a-number where a token is outside the table. -/
def taken (x : IVec S4096x200 32) (e : FVec Ideal S1000000x128 .f32) : FVec Ideal S4096x200x128 .f32 :=
  select (broadcastInDim S4096x200x128 ![0, 1] bcast_S4096x200_S4096x200x128_0_1 (inside (wrapped x))) (Host.gather gather_S1000000x128_S4096x200x1_S4096x200x128_2_0_n_n_0_2_1128 e (wrapped x)) (broadcastInDim S4096x200x128 ![] bcast_S_S4096x200x128 (constant S_ .f32 0x7FC00000#32))

/-- A token in the table is its own row number. -/
theorem wrapped_at (x : IVec S4096x200 32) (hx : ∀ i, (x i).toNat < 1000000) (b : Fin 4096) (s : Fin 200) (z : Fin 1) :
    wrapped x (ix3 b s z) = x (ix2 b s) := by
  have hb : IntOp.cmpi .slt (x (ix2 b s)) 0#32 = 0#1 := by
    have := hx (ix2 b s)
    simp only [IntOp.cmpi, BitVec.slt_eq_decide, BitVec.toInt_eq_toNat_cond]
    rw [decide_eq_false]; · rfl
    simp only [BitVec.toNat_ofNat]; omega
  pointwise [wrapped]
  rw [hb]; rfl

/-- The mask holds at every token in the table. -/
theorem inside_at (x : IVec S4096x200 32) (hx : ∀ i, (x i).toNat < 1000000) (j : S4096x200.Idx) : inside (wrapped x) j = 1#1 := by
  refine Host.reduce_andi_one _ _ _ _ j rfl fun i => ?_
  idx_vars i
  have h1 := wrapped_at x hx i0 i1 i2
  have h2 := hx (ix2 i0 i1)
  change IntOp.andi (IntOp.cmpi .sge (wrapped x (ix3 i0 i1 i2)) 0#32) (IntOp.cmpi .sle (wrapped x (ix3 i0 i1 i2)) 999999#32) = 1#1
  rw [h1]
  generalize x (ix2 i0 i1) = v at h2
  have hi : v.toInt = v.toNat := by rw [BitVec.toInt_eq_toNat_cond]; omega
  simp only [IntOp.cmpi, BitVec.sle_eq_decide, hi]
  rw [decide_eq_true (by rw [show (0#32).toInt = 0 from rfl]; omega), decide_eq_true (by rw [show (999999#32).toInt = 999999 from rfl]; omega)]
  rfl

/-- The gather's dimension numbers. -/
abbrev rowDims : GatherDims S1000000x128 S4096x200x1 S4096x200x128 := gather_S1000000x128_S4096x200x1_S4096x200x128_2_0_n_n_0_2_1128

/-- The gather of rows, read at an index. -/
theorem gather_at {α : Type} (e : S1000000x128.Idx → α) (i : IVec S4096x200x1 32) (b : Fin 4096) (s : Fin 200) (l : Fin 128) (v : Fin 1000000)
    (hv : (i (ix3 b s 0)).toNat = v) :
    Host.gather gather_S1000000x128_S4096x200x1_S4096x200x128_2_0_n_n_0_2_1128 e i (ix3 b s l) = e (ix2 v l) := by
  unfold Host.gather
  refine congrArg e (funext fun a => Fin.ext ?_)
  match a with
  | ⟨0, _⟩ =>
    show rowDims.start (ix3 b s l) i 0 + rowDims.batchCoord (ix3 b s l) 0 + rowDims.offCoord (ix3 b s l) 0 = v.val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ rowDims.startIndexMap from List.mem_singleton.mpr rfl)]
    have hsi : rowDims.siIdx (ix3 b s l) ⟨List.idxOf (0 : Fin 2) rowDims.startIndexMap, List.idxOf_lt_length_iff.2 (List.mem_singleton.mpr rfl)⟩
        = ix3 b s 0 := by
      funext k; refine Fin.ext ?_
      match k with
      | ⟨0, _⟩ => rfl
      | ⟨1, _⟩ => rfl
      | ⟨2, _⟩ => rfl
    have hl := v.isLt
    have hi : (i (ix3 b s 0)).toInt = v.val := by rw [BitVec.toInt_eq_toNat_cond, hv]; omega
    rw [hsi, hi]
    show min ((v.val : Int)).toNat (1000000 - 1) = v.val
    omega
  | ⟨1, _⟩ =>
    show rowDims.start (ix3 b s l) i 1 + rowDims.batchCoord (ix3 b s l) 1 + rowDims.offCoord (ix3 b s l) 1 = l.val
    rw [GatherDims.batchCoord_eq_zero _ _ _ List.not_mem_nil]
    unfold GatherDims.start
    rw [dif_neg (show (1 : Fin 2) ∉ rowDims.startIndexMap from fun h => absurd (List.mem_singleton.mp h) (by decide))]
    rw [Nat.zero_add]
    rfl

/-- A token's row, read at a column. -/
theorem taken_at (x : IVec S4096x200 32) (hx : ∀ i, (x i).toNat < 1000000) (e : FVec Ideal S1000000x128 .f32)
    (b : Fin 4096) (s : Fin 200) (l : Fin 128) : taken x e (ix3 b s l) = e (ix2 ⟨(x (ix2 b s)).toNat, hx _⟩ l) := by
  have hm : (broadcastInDim S4096x200x128 ![0, 1] bcast_S4096x200_S4096x200x128_0_1 (inside (wrapped x))) (ix3 b s l) = 1#1 := inside_at x hx _
  have hg := gather_at e (wrapped x) b s l ⟨(x (ix2 b s)).toNat, hx _⟩ (congrArg BitVec.toNat (wrapped_at x hx b s 0))
  unfold taken
  refine Eq.trans ?_ hg
  change Scalar.select _ _ _ = _
  rw [hm]; rfl

/-! ## The two layers -/

/-- The reference's two layers on an array of rows. -/
def layers (t : FVec Ideal S4096x200x128 .f32) (w1 : FVec Ideal S128x100 .f32) (b1 : FVec Ideal S100 .f32) (w2 : FVec Ideal S100x9 .f32)
    (b2 : FVec Ideal S9 .f32) : FVec Ideal S4096x200x9 .f32 :=
  addf (Host.dotGeneral dot_S4096x200x100_S100x9_S4096x200x9_2_0_01_1_n_n none (maximumf (addf (Host.dotGeneral dot_S4096x200x128_S128x100_S4096x200x100_2_0_01_1_n_n none t w1) (broadcastInDim S4096x200x100 ![0, 1, 2] bcast_S1x1x100_S4096x200x100_0_1_2 (broadcastInDim S1x1x100 ![2] bcast_S100_S1x1x100_2 b1))) (broadcastInDim S4096x200x100 ![] bcast_S_S4096x200x100 (constant S_ .f32 0x00000000#32))) w2) (broadcastInDim S4096x200x9 ![0, 1, 2] bcast_S1x1x9_S4096x200x9_0_1_2 (broadcastInDim S1x1x9 ![2] bcast_S9_S1x1x9_2 b2))

/-- They are the perceptron on each row. -/
theorem layers_at (t : FVec Ideal S4096x200x128 .f32) (w1 : FVec Ideal S128x100 .f32) (b1 : FVec Ideal S100 .f32) (w2 : FVec Ideal S100x9 .f32)
    (b2 : FVec Ideal S9 .f32) (b : Fin 4096) (s : Fin 200) (c : Fin 9) :
    layers t w1 b1 w2 b2 (ix3 b s c)
      = mlp (fun l k => w1 (ix2 l k)) (fun k => b1 (ix1 k)) (fun k => w2 (ix2 k c)) (b2 (ix1 c)) fun l => t (ix3 b s l) := by
  pointwise [layers, mlp, hid]

end Cert.Proof.K

end
-- ==== Proof.Value.lean ====
/-
  The value claim: over the extended reals, on tokens within the vocabulary, kernel and reference end with equal results.
-/
module

public import proofs.«01_k».proof.Proof.Result
public import proofs.«01_k».proof.Proof.Ref
public import proofs.«01_k».proof.Proof.Frames

@[expose] public section

set_option maxRecDepth 16384

noncomputable section

namespace Cert.Proof.K

open Idealize.ShloMosaic Idealize.ShloMosaic.TcCoe
open Idealize.SL.Sem

/-- The reference's term of the kernel's arguments is what the kernel's result buffer holds at the end. -/
theorem same_result (m : (ℓ : Loc Cert.KernelIdeal.nD Cert.KernelIdeal.τ Cert.KernelIdeal.sig) → Buf (Elt Ideal) ℓ)
    (d : Dev Cert.KernelIdeal.nD) (hx : ∀ i, (xM m d i).toNat < 1000000) :
    layers (taken (xM m d) (eM m d)) (w1M m d) (b1M m d) (w2M m d) (b2M m d)
      = (V7 m d (Proc.devRef .tc Cert.KernelIdeal.main_v12) : FVec Ideal Cert.KernelIdeal.S4096x200x9 .f32) := by
  funext j
  idx_vars j
  refine (layers_at _ _ _ _ _ j0 j1 j2).trans (Eq.trans ?_ (res_at m d hx j0 j1 j2).symm)
  exact congrArg (mlp _ _ _ _) (funext fun l => taken_at _ hx _ j0 j1 l)

/-- Kernel and reference end with equal results, their arguments kept. -/
theorem algebraic : Cert.algebraic_KernelIdeal_ReferenceIdeal := fun m g m' g' hp ha => by
  refine ⟨fun c => V7 m c (Proc.devRef .tc Cert.KernelIdeal.main_v12), ?_, ?_⟩
  · exact (θ_run (Cert.KernelIdeal.defs (F := Ideal)) _ _).mono
      (fun r q c => ⟨q.1 c Cert.KernelIdeal.main_v12 (by decide), QC_args m r q c⟩) (run_main (F := Ideal) m g (pre_ideal m hp))
  · refine (θ_run Cert.ReferenceIdeal.defs _ _).mono (fun r h c => ⟨(h c).1.trans ?_, (h c).2⟩) (Cert.ReferenceIdeal.Value.run m' g')
    obtain ⟨h0, h1, h2, h3, h4, h5⟩ := ha c
    rw [h0, h1, h2, h3, h4, h5]
    exact same_result m c fun i => tok_lt (F := Ideal) _ _ _ _ _ _ (hp c) i

end Cert.Proof.K

end
-- ==== Proof.lean ====
/-
  The proof of the claims: the frames (Proof/Frames.lean) and the equal results (Proof/Value.lean), both from the run of the
  program.
-/
module

public import proofs.«01_k».proof.Defs
public import proofs.«01_k».proof.Proof.Gen.Kernel
public import proofs.«01_k».proof.Proof.Gen.KernelIdeal
public import proofs.«01_k».proof.Proof.Gen.Pre_tokens_in_vocab
public import Idealize.ShloMosaic.Adequacy
public import Idealize.ShloMosaic.Init
public import proofs.«01_k».proof.Proof.Gen.ReferenceIdeal.Run
public import proofs.«01_k».proof.Proof.Frames
public import proofs.«01_k».proof.Proof.Value

@[expose] public section

noncomputable section

namespace Cert.Proof

open Idealize.ShloMosaic Idealize.SL.Sem Cert.Kernel

/-- Every claim of this certificate. -/
theorem claim : Cert.Claim := ⟨Cert.Kernel.Gen.facts, Cert.KernelIdeal.Gen.facts, Cert.ReferenceIdeal.Gen.facts, Cert.Pre_tokens_in_vocab.Gen.facts,
  K.frame_kernel, K.frame_ideal, K.frame_reference, K.frame_reference_pre, trivial, K.algebraic⟩

end Cert.Proof

end
